-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S128x100000 : Shape := ⟨2, ![128, 100000]⟩
abbrev S128x1 : Shape := ⟨2, ![128, 1]⟩
abbrev S_ : Shape := ⟨0, ![]⟩

class Facts : Prop where
  bcast_S_S128x1 : S_.BroadcastsInDim S128x1 (![] : Fin 0 → Fin S128x1.rank)
  reducesTo_S128x1_S_d0_1 : S128x1.ReducesTo [0, 1] S_
  h_S_ : 0 < S_.numel
  bcast_S_S128x100000 : S_.BroadcastsInDim S128x100000 (![] : Fin 0 → Fin S128x100000.rank)
  reducesTo_S128x100000_S_d0_1 : S128x100000.ReducesTo [0, 1] S_

variable [Facts]

def fn {F : FTy → Type} [FloatOps F] (main_arg0 : FVec F S128x100000 .f32) (main_arg1 : IVec S128x1 32) : IVec S_ 1 :=
  let main_c : IVec S_ 32 := constantI S_ 32 0#32
  let main_v0 : IVec S128x1 32 := broadcastInDim S128x1 ![] bcast_S_S128x1 main_c
  let main_v1 : IVec S128x1 1 := cmpi .sge main_arg1 main_v0
  let main_c_0 : IVec S_ 32 := constantI S_ 32 100000#32
  let main_v2 : IVec S128x1 32 := broadcastInDim S128x1 ![] bcast_S_S128x1 main_c_0
  let main_v3 : IVec S128x1 1 := cmpi .slt main_arg1 main_v2
  let main_v4 : IVec S128x1 1 := andi main_v1 main_v3
  let main_c_1 : IVec S_ 1 := constantI S_ 1 1#1
  let main_v5 : IVec S_ 1 := (fun x v => Host.reduce IntOp.andi x v reducesTo_S128x1_S_d0_1 h_S_) main_v4 main_c_1
  let main_cst : FVec F S_ .f32 := constant S_ .f32 0xFF7FFFFF#32
  let main_v6 : FVec F S128x100000 .f32 := broadcastInDim S128x100000 ![] bcast_S_S128x100000 main_cst
  let main_v7 : IVec S128x100000 1 := cmpf .oge main_arg0 main_v6
  let main_c_2 : IVec S_ 1 := constantI S_ 1 1#1
  let main_v8 : IVec S_ 1 := (fun x v => Host.reduce IntOp.andi x v reducesTo_S128x100000_S_d0_1 h_S_) main_v7 main_c_2
  let main_v9 : IVec S_ 1 := andi main_v5 main_v8
  main_v9
-- ==== Kernel.lean ====
abbrev S128x100000 : Shape := ⟨2, ![128, 100000]⟩
abbrev S128x1 : Shape := ⟨2, ![128, 1]⟩
abbrev S100000x128 : Shape := ⟨2, ![100000, 128]⟩
abbrev S128 : Shape := ⟨1, ![128]⟩
abbrev S4x32x128 : Shape := ⟨3, ![4, 32, 128]⟩
abbrev S200x128 : Shape := ⟨2, ![200, 128]⟩
abbrev S_ : Shape := ⟨0, ![]⟩
abbrev S16 : Shape := ⟨1, ![16]⟩
abbrev S1x16 : Shape := ⟨2, ![1, 16]⟩
abbrev S1x1x128 : Shape := ⟨3, ![1, 1, 128]⟩
abbrev S1x128 : Shape := ⟨2, ![1, 128]⟩
abbrev S1x32x128 : Shape := ⟨3, ![1, 32, 128]⟩
abbrev S32x128 : Shape := ⟨2, ![32, 128]⟩

abbrev nBuf : Table → Nat
  | .hbm => 9
  | .local .tc .vmem => 3
  | .local .scVector .vmem => 8
  | _ => 0

abbrev bufTy : (tb : Table) → Fin (nBuf tb) → BufTy
  | .hbm, ⟨0, _⟩ => ⟨S128x100000, .f32⟩
  | .hbm, ⟨1, _⟩ => ⟨S128x1, .i32⟩
  | .hbm, ⟨2, _⟩ => ⟨S100000x128, .f32⟩
  | .hbm, ⟨3, _⟩ => ⟨S128, .i32⟩
  | .hbm, ⟨4, _⟩ => ⟨S4x32x128, .f32⟩
  | .hbm, ⟨5, _⟩ => ⟨S1x128, .f32⟩
  | .hbm, ⟨6, _⟩ => ⟨S1x128, .i32⟩
  | .hbm, ⟨7, _⟩ => ⟨S128x1, .f32⟩
  | .hbm, ⟨8, _⟩ => ⟨S128x1, .i32⟩
  | .local .tc .vmem, ⟨0, _⟩ => ⟨S4x32x128, .f32⟩
  | .local .tc .vmem, ⟨1, _⟩ => ⟨S1x128, .f32⟩
  | .local .tc .vmem, ⟨2, _⟩ => ⟨S1x128, .i32⟩
  | .local .scVector .vmem, ⟨0, _⟩ => ⟨S200x128, .f32⟩
  | .local .scVector .vmem, ⟨1, _⟩ => ⟨S200x128, .f32⟩
  | .local .scVector .vmem, ⟨2, _⟩ => ⟨S128, .i32⟩
  | .local .scVector .vmem, ⟨3, _⟩ => ⟨S128, .f32⟩
  | .local .scVector .vmem, ⟨4, _⟩ => ⟨S128, .f32⟩
  | .local .scVector .vmem, ⟨5, _⟩ => ⟨S128, .f32⟩
  | .local .scVector .vmem, ⟨6, _⟩ => ⟨S128, .i32⟩
  | .local .scVector .vmem, ⟨7, _⟩ => ⟨S128, .f32⟩
  | _, _ => ⟨S128x100000, .f32⟩

abbrev bufScoped : (cs : CoreSpace) → Fin (nBuf (.local .tc cs)) → Bool
  | .vmem, ⟨0, _⟩ => true
  | .vmem, ⟨1, _⟩ => true
  | .vmem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v4 : Ref sig .tc := ⟨.hbm, 7, rfl⟩
abbrev main_v5 : Ref sig .tc := ⟨.hbm, 8, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc1_sem0_0 : DmaSem sig := 7
abbrev cc1_sem1_0 : DmaSem sig := 8
abbrev cc1_sem2_0 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v67 : BitVec 32 := Scalar.muli v1 c200_i32
  v67
def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v67 : BitVec 32 := Scalar.muli v1 c200_i32
  let v68 : BitVec 32 := v67
  let c0_i32_54 : BitVec 32 := 0#32
  ![v68.toNat, 0]
def k0_mult2 (i : grid0.Coords) : BitVec 32 :=
  let c32_i32 : BitVec 32 := 32#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v71 : BitVec 32 := Scalar.addi c32_i32 v1
  let c200_i32_56 : BitVec 32 := 200#32
  let v72 : BitVec 32 := Scalar.muli v71 c200_i32_56
  v72
def k0_off2 (i : grid0.Coords) : Fin 2 → Nat :=
  let c32_i32 : BitVec 32 := 32#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v71 : BitVec 32 := Scalar.addi c32_i32 v1
  let c200_i32_56 : BitVec 32 := 200#32
  let v72 : BitVec 32 := Scalar.muli v71 c200_i32_56
  let v73 : BitVec 32 := v72
  let c0_i32_57 : BitVec 32 := 0#32
  ![v73.toNat, 0]
@[reducible] def k0_t1_loop : Scf.Loop 32 :=
  let c0_i32_60 : BitVec 32 := 0#32
  let c7_i32 : BitVec 32 := 7#32
  let v77 : BitVec 32 := Scalar.addi c0_i32_60 c7_i32
  let c1_i32 : BitVec 32 := 1#32
  ⟨c0_i32_60, v77, c1_i32⟩
@[reducible] def k0_t2_loop : Scf.Loop 32 :=
  let c0_i32_237 : BitVec 32 := 0#32
  let c200_i32_238 : BitVec 32 := 200#32
  let v352 : BitVec 32 := Scalar.addi c0_i32_237 c200_i32_238
  let c1_i32_239 : BitVec 32 := 1#32
  ⟨c0_i32_237, v352, c1_i32_239⟩
def k0_off3 (k0_t2 : Fin k0_t2_loop.trips) : Fin 2 → Nat :=
  let c0_i32_237 : BitVec 32 := 0#32
  let c1_i32_239 : BitVec 32 := 1#32
  let arg16 : BitVec 32 := Scf.iv c0_i32_237 c1_i32_239 k0_t2
  let v764 : Index := Scalar.indexCast arg16
  let c0_473 : Index := 0#32
  ![v764.toNat, 0]
def k0_off4 (k0_t2 : Fin k0_t2_loop.trips) : Fin 2 → Nat :=
  let c0_i32_237 : BitVec 32 := 0#32
  let c1_i32_239 : BitVec 32 := 1#32
  let arg16 : BitVec 32 := Scf.iv c0_i32_237 c1_i32_239 k0_t2
  let v771 : Index := Scalar.indexCast arg16
  let c16_474 : Index := 16#32
  ![v771.toNat, 16]
def k0_off5 (k0_t2 : Fin k0_t2_loop.trips) : Fin 2 → Nat :=
  let c0_i32_237 : BitVec 32 := 0#32
  let c1_i32_239 : BitVec 32 := 1#32
  let arg16 : BitVec 32 := Scf.iv c0_i32_237 c1_i32_239 k0_t2
  let v778 : Index := Scalar.indexCast arg16
  let c32_475 : Index := 32#32
  ![v778.toNat, 32]
def k0_off6 (k0_t2 : Fin k0_t2_loop.trips) : Fin 2 → Nat :=
  let c0_i32_237 : BitVec 32 := 0#32
  let c1_i32_239 : BitVec 32 := 1#32
  let arg16 : BitVec 32 := Scf.iv c0_i32_237 c1_i32_239 k0_t2
  let v785 : Index := Scalar.indexCast arg16
  let c48_476 : Index := 48#32
  ![v785.toNat, 48]
def k0_off7 (k0_t2 : Fin k0_t2_loop.trips) : Fin 2 → Nat :=
  let c0_i32_237 : BitVec 32 := 0#32
  let c1_i32_239 : BitVec 32 := 1#32
  let arg16 : BitVec 32 := Scf.iv c0_i32_237 c1_i32_239 k0_t2
  let v792 : Index := Scalar.indexCast arg16
  let c64_477 : Index := 64#32
  ![v792.toNat, 64]
def k0_off8 (k0_t2 : Fin k0_t2_loop.trips) : Fin 2 → Nat :=
  let c0_i32_237 : BitVec 32 := 0#32
  let c1_i32_239 : BitVec 32 := 1#32
  let arg16 : BitVec 32 := Scf.iv c0_i32_237 c1_i32_239 k0_t2
  let v799 : Index := Scalar.indexCast arg16
  let c80_478 : Index := 80#32
  ![v799.toNat, 80]
def k0_off9 (k0_t2 : Fin k0_t2_loop.trips) : Fin 2 → Nat :=
  let c0_i32_237 : BitVec 32 := 0#32
  let c1_i32_239 : BitVec 32 := 1#32
  let arg16 : BitVec 32 := Scf.iv c0_i32_237 c1_i32_239 k0_t2
  let v806 : Index := Scalar.indexCast arg16
  let c96_479 : Index := 96#32
  ![v806.toNat, 96]
def k0_off10 (k0_t2 : Fin k0_t2_loop.trips) : Fin 2 → Nat :=
  let c0_i32_237 : BitVec 32 := 0#32
  let c1_i32_239 : BitVec 32 := 1#32
  let arg16 : BitVec 32 := Scf.iv c0_i32_237 c1_i32_239 k0_t2
  let v813 : Index := Scalar.indexCast arg16
  let c112_480 : Index := 112#32
  ![v813.toNat, 112]

def k0_chk1 (v368 : IVec S16 32) (v370 : IVec S16 32) : Prop :=
  (∀ a x, ((![v368, v370] : Fin 2 → IVec S16 32) a x).toNat < S200x128.size a)
theorem k0_idx1_inb : ∀ (v368 : IVec S16 32) (v370 : IVec S16 32) (k0_hw1 : k0_chk1 v368 v370), ∀ a x, ((![v368, v370] : Fin 2 → IVec S16 32) a x).toNat < S200x128.size a := fun v368 v370 k0_hw1 => k0_hw1

def k0_chk2 (v391 : IVec S16 32) (v393 : IVec S16 32) : Prop :=
  (∀ a x, ((![v391, v393] : Fin 2 → IVec S16 32) a x).toNat < S200x128.size a)
theorem k0_idx2_inb : ∀ (v391 : IVec S16 32) (v393 : IVec S16 32) (k0_hw2 : k0_chk2 v391 v393), ∀ a x, ((![v391, v393] : Fin 2 → IVec S16 32) a x).toNat < S200x128.size a := fun v391 v393 k0_hw2 => k0_hw2

def k0_chk3 (v414 : IVec S16 32) (v416 : IVec S16 32) : Prop :=
  (∀ a x, ((![v414, v416] : Fin 2 → IVec S16 32) a x).toNat < S200x128.size a)
theorem k0_idx3_inb : ∀ (v414 : IVec S16 32) (v416 : IVec S16 32) (k0_hw3 : k0_chk3 v414 v416), ∀ a x, ((![v414, v416] : Fin 2 → IVec S16 32) a x).toNat < S200x128.size a := fun v414 v416 k0_hw3 => k0_hw3

def k0_chk4 (v437 : IVec S16 32) (v439 : IVec S16 32) : Prop :=
  (∀ a x, ((![v437, v439] : Fin 2 → IVec S16 32) a x).toNat < S200x128.size a)
theorem k0_idx4_inb : ∀ (v437 : IVec S16 32) (v439 : IVec S16 32) (k0_hw4 : k0_chk4 v437 v439), ∀ a x, ((![v437, v439] : Fin 2 → IVec S16 32) a x).toNat < S200x128.size a := fun v437 v439 k0_hw4 => k0_hw4

def k0_chk5 (v460 : IVec S16 32) (v462 : IVec S16 32) : Prop :=
  (∀ a x, ((![v460, v462] : Fin 2 → IVec S16 32) a x).toNat < S200x128.size a)
theorem k0_idx5_inb : ∀ (v460 : IVec S16 32) (v462 : IVec S16 32) (k0_hw5 : k0_chk5 v460 v462), ∀ a x, ((![v460, v462] : Fin 2 → IVec S16 32) a x).toNat < S200x128.size a := fun v460 v462 k0_hw5 => k0_hw5

def k0_chk6 (v483 : IVec S16 32) (v485 : IVec S16 32) : Prop :=
  (∀ a x, ((![v483, v485] : Fin 2 → IVec S16 32) a x).toNat < S200x128.size a)
theorem k0_idx6_inb : ∀ (v483 : IVec S16 32) (v485 : IVec S16 32) (k0_hw6 : k0_chk6 v483 v485), ∀ a x, ((![v483, v485] : Fin 2 → IVec S16 32) a x).toNat < S200x128.size a := fun v483 v485 k0_hw6 => k0_hw6

def k0_chk7 (v506 : IVec S16 32) (v508 : IVec S16 32) : Prop :=
  (∀ a x, ((![v506, v508] : Fin 2 → IVec S16 32) a x).toNat < S200x128.size a)
theorem k0_idx7_inb : ∀ (v506 : IVec S16 32) (v508 : IVec S16 32) (k0_hw7 : k0_chk7 v506 v508), ∀ a x, ((![v506, v508] : Fin 2 → IVec S16 32) a x).toNat < S200x128.size a := fun v506 v508 k0_hw7 => k0_hw7

def k0_chk8 (v529 : IVec S16 32) (v531 : IVec S16 32) : Prop :=
  (∀ a x, ((![v529, v531] : Fin 2 → IVec S16 32) a x).toNat < S200x128.size a)
theorem k0_idx8_inb : ∀ (v529 : IVec S16 32) (v531 : IVec S16 32) (k0_hw8 : k0_chk8 v529 v531), ∀ a x, ((![v529, v531] : Fin 2 → IVec S16 32) a x).toNat < S200x128.size a := fun v529 v531 k0_hw8 => k0_hw8
def k0_mult3 (i : grid0.Coords) (k0_t1 : Fin k0_t1_loop.trips) : BitVec 32 :=
  let c2_i32_206 : BitVec 32 := 2#32
  let c0_i32_60 : BitVec 32 := 0#32
  let c1_i32 : BitVec 32 := 1#32
  let arg15 : BitVec 32 := Scf.iv c0_i32_60 c1_i32 k0_t1
  let v322 : BitVec 32 := Scalar.muli c2_i32_206 arg15
  let c32_i32_207 : BitVec 32 := 32#32
  let v323 : BitVec 32 := Scalar.muli v322 c32_i32_207
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v324 : BitVec 32 := Scalar.addi v323 v1
  let c64_i32_337 : BitVec 32 := 64#32
  let v538 : BitVec 32 := Scalar.addi v324 c64_i32_337
  let c200_i32_338 : BitVec 32 := 200#32
  let v539 : BitVec 32 := Scalar.muli v538 c200_i32_338
  v539
def k0_off11 (i : grid0.Coords) (k0_t1 : Fin k0_t1_loop.trips) : Fin 2 → Nat :=
  let c2_i32_206 : BitVec 32 := 2#32
  let c0_i32_60 : BitVec 32 := 0#32
  let c1_i32 : BitVec 32 := 1#32
  let arg15 : BitVec 32 := Scf.iv c0_i32_60 c1_i32 k0_t1
  let v322 : BitVec 32 := Scalar.muli c2_i32_206 arg15
  let c32_i32_207 : BitVec 32 := 32#32
  let v323 : BitVec 32 := Scalar.muli v322 c32_i32_207
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v324 : BitVec 32 := Scalar.addi v323 v1
  let c64_i32_337 : BitVec 32 := 64#32
  let v538 : BitVec 32 := Scalar.addi v324 c64_i32_337
  let c200_i32_338 : BitVec 32 := 200#32
  let v539 : BitVec 32 := Scalar.muli v538 c200_i32_338
  let v540 : BitVec 32 := v539
  let c0_i32_339 : BitVec 32 := 0#32
  ![v540.toNat, 0]
@[reducible] def k0_t3_loop : Scf.Loop 32 :=
  let c0_i32_371 : BitVec 32 := 0#32
  let c200_i32_372 : BitVec 32 := 200#32
  let v571 : BitVec 32 := Scalar.addi c0_i32_371 c200_i32_372
  let c1_i32_373 : BitVec 32 := 1#32
  ⟨c0_i32_371, v571, c1_i32_373⟩
def k0_off12 (k0_t3 : Fin k0_t3_loop.trips) : Fin 2 → Nat :=
  let c0_i32_371 : BitVec 32 := 0#32
  let c1_i32_373 : BitVec 32 := 1#32
  let arg16 : BitVec 32 := Scf.iv c0_i32_371 c1_i32_373 k0_t3
  let v764 : Index := Scalar.indexCast arg16
  let c0_473 : Index := 0#32
  ![v764.toNat, 0]
def k0_off13 (k0_t3 : Fin k0_t3_loop.trips) : Fin 2 → Nat :=
  let c0_i32_371 : BitVec 32 := 0#32
  let c1_i32_373 : BitVec 32 := 1#32
  let arg16 : BitVec 32 := Scf.iv c0_i32_371 c1_i32_373 k0_t3
  let v771 : Index := Scalar.indexCast arg16
  let c16_474 : Index := 16#32
  ![v771.toNat, 16]
def k0_off14 (k0_t3 : Fin k0_t3_loop.trips) : Fin 2 → Nat :=
  let c0_i32_371 : BitVec 32 := 0#32
  let c1_i32_373 : BitVec 32 := 1#32
  let arg16 : BitVec 32 := Scf.iv c0_i32_371 c1_i32_373 k0_t3
  let v778 : Index := Scalar.indexCast arg16
  let c32_475 : Index := 32#32
  ![v778.toNat, 32]
def k0_off15 (k0_t3 : Fin k0_t3_loop.trips) : Fin 2 → Nat :=
  let c0_i32_371 : BitVec 32 := 0#32
  let c1_i32_373 : BitVec 32 := 1#32
  let arg16 : BitVec 32 := Scf.iv c0_i32_371 c1_i32_373 k0_t3
  let v785 : Index := Scalar.indexCast arg16
  let c48_476 : Index := 48#32
  ![v785.toNat, 48]
def k0_off16 (k0_t3 : Fin k0_t3_loop.trips) : Fin 2 → Nat :=
  let c0_i32_371 : BitVec 32 := 0#32
  let c1_i32_373 : BitVec 32 := 1#32
  let arg16 : BitVec 32 := Scf.iv c0_i32_371 c1_i32_373 k0_t3
  let v792 : Index := Scalar.indexCast arg16
  let c64_477 : Index := 64#32
  ![v792.toNat, 64]
def k0_off17 (k0_t3 : Fin k0_t3_loop.trips) : Fin 2 → Nat :=
  let c0_i32_371 : BitVec 32 := 0#32
  let c1_i32_373 : BitVec 32 := 1#32
  let arg16 : BitVec 32 := Scf.iv c0_i32_371 c1_i32_373 k0_t3
  let v799 : Index := Scalar.indexCast arg16
  let c80_478 : Index := 80#32
  ![v799.toNat, 80]
def k0_off18 (k0_t3 : Fin k0_t3_loop.trips) : Fin 2 → Nat :=
  let c0_i32_371 : BitVec 32 := 0#32
  let c1_i32_373 : BitVec 32 := 1#32
  let arg16 : BitVec 32 := Scf.iv c0_i32_371 c1_i32_373 k0_t3
  let v806 : Index := Scalar.indexCast arg16
  let c96_479 : Index := 96#32
  ![v806.toNat, 96]
def k0_off19 (k0_t3 : Fin k0_t3_loop.trips) : Fin 2 → Nat :=
  let c0_i32_371 : BitVec 32 := 0#32
  let c1_i32_373 : BitVec 32 := 1#32
  let arg16 : BitVec 32 := Scf.iv c0_i32_371 c1_i32_373 k0_t3
  let v813 : Index := Scalar.indexCast arg16
  let c112_480 : Index := 112#32
  ![v813.toNat, 112]

def k0_chk9 (v587 : IVec S16 32) (v589 : IVec S16 32) : Prop :=
  (∀ a x, ((![v587, v589] : Fin 2 → IVec S16 32) a x).toNat < S200x128.size a)
theorem k0_idx9_inb : ∀ (v587 : IVec S16 32) (v589 : IVec S16 32) (k0_hw9 : k0_chk9 v587 v589), ∀ a x, ((![v587, v589] : Fin 2 → IVec S16 32) a x).toNat < S200x128.size a := fun v587 v589 k0_hw9 => k0_hw9

def k0_chk10 (v610 : IVec S16 32) (v612 : IVec S16 32) : Prop :=
  (∀ a x, ((![v610, v612] : Fin 2 → IVec S16 32) a x).toNat < S200x128.size a)
theorem k0_idx10_inb : ∀ (v610 : IVec S16 32) (v612 : IVec S16 32) (k0_hw10 : k0_chk10 v610 v612), ∀ a x, ((![v610, v612] : Fin 2 → IVec S16 32) a x).toNat < S200x128.size a := fun v610 v612 k0_hw10 => k0_hw10

def k0_chk11 (v633 : IVec S16 32) (v635 : IVec S16 32) : Prop :=
  (∀ a x, ((![v633, v635] : Fin 2 → IVec S16 32) a x).toNat < S200x128.size a)
theorem k0_idx11_inb : ∀ (v633 : IVec S16 32) (v635 : IVec S16 32) (k0_hw11 : k0_chk11 v633 v635), ∀ a x, ((![v633, v635] : Fin 2 → IVec S16 32) a x).toNat < S200x128.size a := fun v633 v635 k0_hw11 => k0_hw11

def k0_chk12 (v656 : IVec S16 32) (v658 : IVec S16 32) : Prop :=
  (∀ a x, ((![v656, v658] : Fin 2 → IVec S16 32) a x).toNat < S200x128.size a)
theorem k0_idx12_inb : ∀ (v656 : IVec S16 32) (v658 : IVec S16 32) (k0_hw12 : k0_chk12 v656 v658), ∀ a x, ((![v656, v658] : Fin 2 → IVec S16 32) a x).toNat < S200x128.size a := fun v656 v658 k0_hw12 => k0_hw12

def k0_chk13 (v679 : IVec S16 32) (v681 : IVec S16 32) : Prop :=
  (∀ a x, ((![v679, v681] : Fin 2 → IVec S16 32) a x).toNat < S200x128.size a)
theorem k0_idx13_inb : ∀ (v679 : IVec S16 32) (v681 : IVec S16 32) (k0_hw13 : k0_chk13 v679 v681), ∀ a x, ((![v679, v681] : Fin 2 → IVec S16 32) a x).toNat < S200x128.size a := fun v679 v681 k0_hw13 => k0_hw13

def k0_chk14 (v702 : IVec S16 32) (v704 : IVec S16 32) : Prop :=
  (∀ a x, ((![v702, v704] : Fin 2 → IVec S16 32) a x).toNat < S200x128.size a)
theorem k0_idx14_inb : ∀ (v702 : IVec S16 32) (v704 : IVec S16 32) (k0_hw14 : k0_chk14 v702 v704), ∀ a x, ((![v702, v704] : Fin 2 → IVec S16 32) a x).toNat < S200x128.size a := fun v702 v704 k0_hw14 => k0_hw14

def k0_chk15 (v725 : IVec S16 32) (v727 : IVec S16 32) : Prop :=
  (∀ a x, ((![v725, v727] : Fin 2 → IVec S16 32) a x).toNat < S200x128.size a)
theorem k0_idx15_inb : ∀ (v725 : IVec S16 32) (v727 : IVec S16 32) (k0_hw15 : k0_chk15 v725 v727), ∀ a x, ((![v725, v727] : Fin 2 → IVec S16 32) a x).toNat < S200x128.size a := fun v725 v727 k0_hw15 => k0_hw15

def k0_chk16 (v748 : IVec S16 32) (v750 : IVec S16 32) : Prop :=
  (∀ a x, ((![v748, v750] : Fin 2 → IVec S16 32) a x).toNat < S200x128.size a)
theorem k0_idx16_inb : ∀ (v748 : IVec S16 32) (v750 : IVec S16 32) (k0_hw16 : k0_chk16 v748 v750), ∀ a x, ((![v748, v750] : Fin 2 → IVec S16 32) a x).toNat < S200x128.size a := fun v748 v750 k0_hw16 => k0_hw16
def k0_cond1 (k0_t1 : Fin k0_t1_loop.trips) : BitVec 1 :=
  let c0_i32_60 : BitVec 32 := 0#32
  let c1_i32 : BitVec 32 := 1#32
  let arg15 : BitVec 32 := Scf.iv c0_i32_60 c1_i32 k0_t1
  let c6_i32 : BitVec 32 := 6#32
  let v757 : BitVec 1 := Scalar.cmpi .slt arg15 c6_i32
  let v758 : BitVec 32 := Scalar.extui v757
  let c0_i32_471 : BitVec 32 := 0#32
  let v759 : BitVec 1 := Scalar.cmpi .ne v758 c0_i32_471
  v759

def k0_mult4 (i : grid0.Coords) (k0_t1 : Fin k0_t1_loop.trips) : BitVec 32 :=
  let c2_i32_206 : BitVec 32 := 2#32
  let c0_i32_60 : BitVec 32 := 0#32
  let c1_i32 : BitVec 32 := 1#32
  let arg15 : BitVec 32 := Scf.iv c0_i32_60 c1_i32 k0_t1
  let v322 : BitVec 32 := Scalar.muli c2_i32_206 arg15
  let c32_i32_207 : BitVec 32 := 32#32
  let v323 : BitVec 32 := Scalar.muli v322 c32_i32_207
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v324 : BitVec 32 := Scalar.addi v323 v1
  let c96_i32_472 : BitVec 32 := 96#32
  let v760 : BitVec 32 := Scalar.addi v324 c96_i32_472
  let c200_i32_473 : BitVec 32 := 200#32
  let v761 : BitVec 32 := Scalar.muli v760 c200_i32_473
  v761
def k0_off20 (i : grid0.Coords) (k0_t1 : Fin k0_t1_loop.trips) : Fin 2 → Nat :=
  let c2_i32_206 : BitVec 32 := 2#32
  let c0_i32_60 : BitVec 32 := 0#32
  let c1_i32 : BitVec 32 := 1#32
  let arg15 : BitVec 32 := Scf.iv c0_i32_60 c1_i32 k0_t1
  let v322 : BitVec 32 := Scalar.muli c2_i32_206 arg15
  let c32_i32_207 : BitVec 32 := 32#32
  let v323 : BitVec 32 := Scalar.muli v322 c32_i32_207
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v324 : BitVec 32 := Scalar.addi v323 v1
  let c96_i32_472 : BitVec 32 := 96#32
  let v760 : BitVec 32 := Scalar.addi v324 c96_i32_472
  let c200_i32_473 : BitVec 32 := 200#32
  let v761 : BitVec 32 := Scalar.muli v760 c200_i32_473
  let v762 : BitVec 32 := v761
  let c0_i32_474 : BitVec 32 := 0#32
  ![v762.toNat, 0]
def k0_cond2 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20_i32 : BitVec 32 := 20#32
  let v78 : BitVec 1 := Scalar.cmpi .slt v1 c20_i32
  let v79 : BitVec 32 := Scalar.extui v78
  let c0_i32_62 : BitVec 32 := 0#32
  let v80 : BitVec 1 := Scalar.cmpi .ne v79 c0_i32_62
  v80

def k0_mult5 (i : grid0.Coords) : BitVec 32 :=
  let c480_i32 : BitVec 32 := 480#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v76 : BitVec 32 := Scalar.addi c480_i32 v1
  let c200_i32_206 : BitVec 32 := 200#32
  let v322 : BitVec 32 := Scalar.muli v76 c200_i32_206
  v322
def k0_off21 (i : grid0.Coords) : Fin 2 → Nat :=
  let c480_i32 : BitVec 32 := 480#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v76 : BitVec 32 := Scalar.addi c480_i32 v1
  let c200_i32_206 : BitVec 32 := 200#32
  let v322 : BitVec 32 := Scalar.muli v76 c200_i32_206
  let v323 : BitVec 32 := v322
  let c0_i32_207 : BitVec 32 := 0#32
  ![v323.toNat, 0]
@[reducible] def k0_t4_loop : Scf.Loop 32 :=
  let c0_i32_92 : BitVec 32 := 0#32
  let c200_i32_93 : BitVec 32 := 200#32
  let v109 : BitVec 32 := Scalar.addi c0_i32_92 c200_i32_93
  let c1_i32_94 : BitVec 32 := 1#32
  ⟨c0_i32_92, v109, c1_i32_94⟩
def k0_off22 (k0_t4 : Fin k0_t4_loop.trips) : Fin 2 → Nat :=
  let c0_i32_92 : BitVec 32 := 0#32
  let c1_i32_94 : BitVec 32 := 1#32
  let arg15 : BitVec 32 := Scf.iv c0_i32_92 c1_i32_94 k0_t4
  let v326 : Index := Scalar.indexCast arg15
  let c0_207 : Index := 0#32
  ![v326.toNat, 0]
def k0_off23 (k0_t4 : Fin k0_t4_loop.trips) : Fin 2 → Nat :=
  let c0_i32_92 : BitVec 32 := 0#32
  let c1_i32_94 : BitVec 32 := 1#32
  let arg15 : BitVec 32 := Scf.iv c0_i32_92 c1_i32_94 k0_t4
  let v333 : Index := Scalar.indexCast arg15
  let c16_208 : Index := 16#32
  ![v333.toNat, 16]
def k0_off24 (k0_t4 : Fin k0_t4_loop.trips) : Fin 2 → Nat :=
  let c0_i32_92 : BitVec 32 := 0#32
  let c1_i32_94 : BitVec 32 := 1#32
  let arg15 : BitVec 32 := Scf.iv c0_i32_92 c1_i32_94 k0_t4
  let v340 : Index := Scalar.indexCast arg15
  let c32_209 : Index := 32#32
  ![v340.toNat, 32]
def k0_off25 (k0_t4 : Fin k0_t4_loop.trips) : Fin 2 → Nat :=
  let c0_i32_92 : BitVec 32 := 0#32
  let c1_i32_94 : BitVec 32 := 1#32
  let arg15 : BitVec 32 := Scf.iv c0_i32_92 c1_i32_94 k0_t4
  let v347 : Index := Scalar.indexCast arg15
  let c48_210 : Index := 48#32
  ![v347.toNat, 48]
def k0_off26 (k0_t4 : Fin k0_t4_loop.trips) : Fin 2 → Nat :=
  let c0_i32_92 : BitVec 32 := 0#32
  let c1_i32_94 : BitVec 32 := 1#32
  let arg15 : BitVec 32 := Scf.iv c0_i32_92 c1_i32_94 k0_t4
  let v354 : Index := Scalar.indexCast arg15
  let c64_211 : Index := 64#32
  ![v354.toNat, 64]
def k0_off27 (k0_t4 : Fin k0_t4_loop.trips) : Fin 2 → Nat :=
  let c0_i32_92 : BitVec 32 := 0#32
  let c1_i32_94 : BitVec 32 := 1#32
  let arg15 : BitVec 32 := Scf.iv c0_i32_92 c1_i32_94 k0_t4
  let v361 : Index := Scalar.indexCast arg15
  let c80_212 : Index := 80#32
  ![v361.toNat, 80]
def k0_off28 (k0_t4 : Fin k0_t4_loop.trips) : Fin 2 → Nat :=
  let c0_i32_92 : BitVec 32 := 0#32
  let c1_i32_94 : BitVec 32 := 1#32
  let arg15 : BitVec 32 := Scf.iv c0_i32_92 c1_i32_94 k0_t4
  let v368 : Index := Scalar.indexCast arg15
  let c96_213 : Index := 96#32
  ![v368.toNat, 96]
def k0_off29 (k0_t4 : Fin k0_t4_loop.trips) : Fin 2 → Nat :=
  let c0_i32_92 : BitVec 32 := 0#32
  let c1_i32_94 : BitVec 32 := 1#32
  let arg15 : BitVec 32 := Scf.iv c0_i32_92 c1_i32_94 k0_t4
  let v375 : Index := Scalar.indexCast arg15
  let c112_214 : Index := 112#32
  ![v375.toNat, 112]

def k0_chk17 (v125 : IVec S16 32) (v127 : IVec S16 32) : Prop :=
  (∀ a x, ((![v125, v127] : Fin 2 → IVec S16 32) a x).toNat < S200x128.size a)
theorem k0_idx17_inb : ∀ (v125 : IVec S16 32) (v127 : IVec S16 32) (k0_hw17 : k0_chk17 v125 v127), ∀ a x, ((![v125, v127] : Fin 2 → IVec S16 32) a x).toNat < S200x128.size a := fun v125 v127 k0_hw17 => k0_hw17

def k0_chk18 (v148 : IVec S16 32) (v150 : IVec S16 32) : Prop :=
  (∀ a x, ((![v148, v150] : Fin 2 → IVec S16 32) a x).toNat < S200x128.size a)
theorem k0_idx18_inb : ∀ (v148 : IVec S16 32) (v150 : IVec S16 32) (k0_hw18 : k0_chk18 v148 v150), ∀ a x, ((![v148, v150] : Fin 2 → IVec S16 32) a x).toNat < S200x128.size a := fun v148 v150 k0_hw18 => k0_hw18

def k0_chk19 (v171 : IVec S16 32) (v173 : IVec S16 32) : Prop :=
  (∀ a x, ((![v171, v173] : Fin 2 → IVec S16 32) a x).toNat < S200x128.size a)
theorem k0_idx19_inb : ∀ (v171 : IVec S16 32) (v173 : IVec S16 32) (k0_hw19 : k0_chk19 v171 v173), ∀ a x, ((![v171, v173] : Fin 2 → IVec S16 32) a x).toNat < S200x128.size a := fun v171 v173 k0_hw19 => k0_hw19

def k0_chk20 (v194 : IVec S16 32) (v196 : IVec S16 32) : Prop :=
  (∀ a x, ((![v194, v196] : Fin 2 → IVec S16 32) a x).toNat < S200x128.size a)
theorem k0_idx20_inb : ∀ (v194 : IVec S16 32) (v196 : IVec S16 32) (k0_hw20 : k0_chk20 v194 v196), ∀ a x, ((![v194, v196] : Fin 2 → IVec S16 32) a x).toNat < S200x128.size a := fun v194 v196 k0_hw20 => k0_hw20

def k0_chk21 (v217 : IVec S16 32) (v219 : IVec S16 32) : Prop :=
  (∀ a x, ((![v217, v219] : Fin 2 → IVec S16 32) a x).toNat < S200x128.size a)
theorem k0_idx21_inb : ∀ (v217 : IVec S16 32) (v219 : IVec S16 32) (k0_hw21 : k0_chk21 v217 v219), ∀ a x, ((![v217, v219] : Fin 2 → IVec S16 32) a x).toNat < S200x128.size a := fun v217 v219 k0_hw21 => k0_hw21

def k0_chk22 (v240 : IVec S16 32) (v242 : IVec S16 32) : Prop :=
  (∀ a x, ((![v240, v242] : Fin 2 → IVec S16 32) a x).toNat < S200x128.size a)
theorem k0_idx22_inb : ∀ (v240 : IVec S16 32) (v242 : IVec S16 32) (k0_hw22 : k0_chk22 v240 v242), ∀ a x, ((![v240, v242] : Fin 2 → IVec S16 32) a x).toNat < S200x128.size a := fun v240 v242 k0_hw22 => k0_hw22

def k0_chk23 (v263 : IVec S16 32) (v265 : IVec S16 32) : Prop :=
  (∀ a x, ((![v263, v265] : Fin 2 → IVec S16 32) a x).toNat < S200x128.size a)
theorem k0_idx23_inb : ∀ (v263 : IVec S16 32) (v265 : IVec S16 32) (k0_hw23 : k0_chk23 v263 v265), ∀ a x, ((![v263, v265] : Fin 2 → IVec S16 32) a x).toNat < S200x128.size a := fun v263 v265 k0_hw23 => k0_hw23

def k0_chk24 (v286 : IVec S16 32) (v288 : IVec S16 32) : Prop :=
  (∀ a x, ((![v286, v288] : Fin 2 → IVec S16 32) a x).toNat < S200x128.size a)
theorem k0_idx24_inb : ∀ (v286 : IVec S16 32) (v288 : IVec S16 32) (k0_hw24 : k0_chk24 v286 v288), ∀ a x, ((![v286, v288] : Fin 2 → IVec S16 32) a x).toNat < S200x128.size a := fun v286 v288 k0_hw24 => k0_hw24
def k0_cond3 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20_i32_185 : BitVec 32 := 20#32
  let v295 : BitVec 1 := Scalar.cmpi .slt v1 c20_i32_185
  let v296 : BitVec 32 := Scalar.extui v295
  let c0_i32_186 : BitVec 32 := 0#32
  let v297 : BitVec 1 := Scalar.cmpi .ne v296 c0_i32_186
  v297

@[reducible] def k0_t5_loop : Scf.Loop 32 :=
  let c0_i32_235 : BitVec 32 := 0#32
  let c200_i32_236 : BitVec 32 := 200#32
  let v349 : BitVec 32 := Scalar.addi c0_i32_235 c200_i32_236
  let c1_i32_237 : BitVec 32 := 1#32
  ⟨c0_i32_235, v349, c1_i32_237⟩
def k0_off30 (k0_t5 : Fin k0_t5_loop.trips) : Fin 2 → Nat :=
  let c0_i32_235 : BitVec 32 := 0#32
  let c1_i32_237 : BitVec 32 := 1#32
  let arg15 : BitVec 32 := Scf.iv c0_i32_235 c1_i32_237 k0_t5
  let v539 : Index := Scalar.indexCast arg15
  let c0_336 : Index := 0#32
  ![v539.toNat, 0]
def k0_off31 (k0_t5 : Fin k0_t5_loop.trips) : Fin 2 → Nat :=
  let c0_i32_235 : BitVec 32 := 0#32
  let c1_i32_237 : BitVec 32 := 1#32
  let arg15 : BitVec 32 := Scf.iv c0_i32_235 c1_i32_237 k0_t5
  let v546 : Index := Scalar.indexCast arg15
  let c16_337 : Index := 16#32
  ![v546.toNat, 16]
def k0_off32 (k0_t5 : Fin k0_t5_loop.trips) : Fin 2 → Nat :=
  let c0_i32_235 : BitVec 32 := 0#32
  let c1_i32_237 : BitVec 32 := 1#32
  let arg15 : BitVec 32 := Scf.iv c0_i32_235 c1_i32_237 k0_t5
  let v553 : Index := Scalar.indexCast arg15
  let c32_338 : Index := 32#32
  ![v553.toNat, 32]
def k0_off33 (k0_t5 : Fin k0_t5_loop.trips) : Fin 2 → Nat :=
  let c0_i32_235 : BitVec 32 := 0#32
  let c1_i32_237 : BitVec 32 := 1#32
  let arg15 : BitVec 32 := Scf.iv c0_i32_235 c1_i32_237 k0_t5
  let v560 : Index := Scalar.indexCast arg15
  let c48_339 : Index := 48#32
  ![v560.toNat, 48]
def k0_off34 (k0_t5 : Fin k0_t5_loop.trips) : Fin 2 → Nat :=
  let c0_i32_235 : BitVec 32 := 0#32
  let c1_i32_237 : BitVec 32 := 1#32
  let arg15 : BitVec 32 := Scf.iv c0_i32_235 c1_i32_237 k0_t5
  let v567 : Index := Scalar.indexCast arg15
  let c64_340 : Index := 64#32
  ![v567.toNat, 64]
def k0_off35 (k0_t5 : Fin k0_t5_loop.trips) : Fin 2 → Nat :=
  let c0_i32_235 : BitVec 32 := 0#32
  let c1_i32_237 : BitVec 32 := 1#32
  let arg15 : BitVec 32 := Scf.iv c0_i32_235 c1_i32_237 k0_t5
  let v574 : Index := Scalar.indexCast arg15
  let c80_341 : Index := 80#32
  ![v574.toNat, 80]
def k0_off36 (k0_t5 : Fin k0_t5_loop.trips) : Fin 2 → Nat :=
  let c0_i32_235 : BitVec 32 := 0#32
  let c1_i32_237 : BitVec 32 := 1#32
  let arg15 : BitVec 32 := Scf.iv c0_i32_235 c1_i32_237 k0_t5
  let v581 : Index := Scalar.indexCast arg15
  let c96_342 : Index := 96#32
  ![v581.toNat, 96]
def k0_off37 (k0_t5 : Fin k0_t5_loop.trips) : Fin 2 → Nat :=
  let c0_i32_235 : BitVec 32 := 0#32
  let c1_i32_237 : BitVec 32 := 1#32
  let arg15 : BitVec 32 := Scf.iv c0_i32_235 c1_i32_237 k0_t5
  let v588 : Index := Scalar.indexCast arg15
  let c112_343 : Index := 112#32
  ![v588.toNat, 112]

def k0_chk25 (i : grid0.Coords) (v365 : IVec S16 32) (v367 : IVec S16 32) : Prop :=
  (∀ (k0_h3 : k0_cond3 i = 1#1), ∀ a x, ((![v365, v367] : Fin 2 → IVec S16 32) a x).toNat < S200x128.size a)
theorem k0_idx25_inb : ∀ (i : grid0.Coords) (v365 : IVec S16 32) (v367 : IVec S16 32) (k0_hw25 : k0_chk25 i v365 v367), ∀ (k0_h3 : k0_cond3 i = 1#1), ∀ a x, ((![v365, v367] : Fin 2 → IVec S16 32) a x).toNat < S200x128.size a := fun i v365 v367 k0_hw25 k0_h3 => k0_hw25 k0_h3

def k0_chk26 (i : grid0.Coords) (v388 : IVec S16 32) (v390 : IVec S16 32) : Prop :=
  (∀ (k0_h3 : k0_cond3 i = 1#1), ∀ a x, ((![v388, v390] : Fin 2 → IVec S16 32) a x).toNat < S200x128.size a)
theorem k0_idx26_inb : ∀ (i : grid0.Coords) (v388 : IVec S16 32) (v390 : IVec S16 32) (k0_hw26 : k0_chk26 i v388 v390), ∀ (k0_h3 : k0_cond3 i = 1#1), ∀ a x, ((![v388, v390] : Fin 2 → IVec S16 32) a x).toNat < S200x128.size a := fun i v388 v390 k0_hw26 k0_h3 => k0_hw26 k0_h3

def k0_chk27 (i : grid0.Coords) (v411 : IVec S16 32) (v413 : IVec S16 32) : Prop :=
  (∀ (k0_h3 : k0_cond3 i = 1#1), ∀ a x, ((![v411, v413] : Fin 2 → IVec S16 32) a x).toNat < S200x128.size a)
theorem k0_idx27_inb : ∀ (i : grid0.Coords) (v411 : IVec S16 32) (v413 : IVec S16 32) (k0_hw27 : k0_chk27 i v411 v413), ∀ (k0_h3 : k0_cond3 i = 1#1), ∀ a x, ((![v411, v413] : Fin 2 → IVec S16 32) a x).toNat < S200x128.size a := fun i v411 v413 k0_hw27 k0_h3 => k0_hw27 k0_h3

def k0_chk28 (i : grid0.Coords) (v434 : IVec S16 32) (v436 : IVec S16 32) : Prop :=
  (∀ (k0_h3 : k0_cond3 i = 1#1), ∀ a x, ((![v434, v436] : Fin 2 → IVec S16 32) a x).toNat < S200x128.size a)
theorem k0_idx28_inb : ∀ (i : grid0.Coords) (v434 : IVec S16 32) (v436 : IVec S16 32) (k0_hw28 : k0_chk28 i v434 v436), ∀ (k0_h3 : k0_cond3 i = 1#1), ∀ a x, ((![v434, v436] : Fin 2 → IVec S16 32) a x).toNat < S200x128.size a := fun i v434 v436 k0_hw28 k0_h3 => k0_hw28 k0_h3

def k0_chk29 (i : grid0.Coords) (v457 : IVec S16 32) (v459 : IVec S16 32) : Prop :=
  (∀ (k0_h3 : k0_cond3 i = 1#1), ∀ a x, ((![v457, v459] : Fin 2 → IVec S16 32) a x).toNat < S200x128.size a)
theorem k0_idx29_inb : ∀ (i : grid0.Coords) (v457 : IVec S16 32) (v459 : IVec S16 32) (k0_hw29 : k0_chk29 i v457 v459), ∀ (k0_h3 : k0_cond3 i = 1#1), ∀ a x, ((![v457, v459] : Fin 2 → IVec S16 32) a x).toNat < S200x128.size a := fun i v457 v459 k0_hw29 k0_h3 => k0_hw29 k0_h3

def k0_chk30 (i : grid0.Coords) (v480 : IVec S16 32) (v482 : IVec S16 32) : Prop :=
  (∀ (k0_h3 : k0_cond3 i = 1#1), ∀ a x, ((![v480, v482] : Fin 2 → IVec S16 32) a x).toNat < S200x128.size a)
theorem k0_idx30_inb : ∀ (i : grid0.Coords) (v480 : IVec S16 32) (v482 : IVec S16 32) (k0_hw30 : k0_chk30 i v480 v482), ∀ (k0_h3 : k0_cond3 i = 1#1), ∀ a x, ((![v480, v482] : Fin 2 → IVec S16 32) a x).toNat < S200x128.size a := fun i v480 v482 k0_hw30 k0_h3 => k0_hw30 k0_h3

def k0_chk31 (i : grid0.Coords) (v503 : IVec S16 32) (v505 : IVec S16 32) : Prop :=
  (∀ (k0_h3 : k0_cond3 i = 1#1), ∀ a x, ((![v503, v505] : Fin 2 → IVec S16 32) a x).toNat < S200x128.size a)
theorem k0_idx31_inb : ∀ (i : grid0.Coords) (v503 : IVec S16 32) (v505 : IVec S16 32) (k0_hw31 : k0_chk31 i v503 v505), ∀ (k0_h3 : k0_cond3 i = 1#1), ∀ a x, ((![v503, v505] : Fin 2 → IVec S16 32) a x).toNat < S200x128.size a := fun i v503 v505 k0_hw31 k0_h3 => k0_hw31 k0_h3

def k0_chk32 (i : grid0.Coords) (v526 : IVec S16 32) (v528 : IVec S16 32) : Prop :=
  (∀ (k0_h3 : k0_cond3 i = 1#1), ∀ a x, ((![v526, v528] : Fin 2 → IVec S16 32) a x).toNat < S200x128.size a)
theorem k0_idx32_inb : ∀ (i : grid0.Coords) (v526 : IVec S16 32) (v528 : IVec S16 32) (k0_hw32 : k0_chk32 i v526 v528), ∀ (k0_h3 : k0_cond3 i = 1#1), ∀ a x, ((![v526, v528] : Fin 2 → IVec S16 32) a x).toNat < S200x128.size a := fun i v526 v528 k0_hw32 k0_h3 => k0_hw32 k0_h3
def k0_off38 (i : grid0.Coords) : Fin 3 → Nat :=
  let c0_i32_203 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_206_r1 : BitVec 32 := 0#32
  ![0, v1.toNat, 0]
def k0_off39 (i : grid0.Coords) : Fin 3 → Nat :=
  let c1_i32_204 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_206_r2 : BitVec 32 := 0#32
  ![1, v1.toNat, 0]
def k0_off40 (i : grid0.Coords) : Fin 3 → Nat :=
  let c2_i32_205 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_206_r3 : BitVec 32 := 0#32
  ![2, v1.toNat, 0]
def k0_off41 (i : grid0.Coords) : Fin 3 → Nat :=
  let c3_i32 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_206_r4 : BitVec 32 := 0#32
  ![3, v1.toNat, 0]
abbrev grid1 : Pipeline.Grid := .none

abbrev stage1_0 : Fin 1 → Memref sig .tc .vmem S4x32x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x128 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128x100000 : Shape := ⟨2, ![128, 100000]⟩
abbrev S128x1 : Shape := ⟨2, ![128, 1]⟩
abbrev S_ : Shape := ⟨0, ![]⟩
abbrev S128 : Shape := ⟨1, ![128]⟩
abbrev S128x1x1 : Shape := ⟨3, ![128, 1, 1]⟩
abbrev S1 : Shape := ⟨1, ![1]⟩
abbrev S1x1x1 : Shape := ⟨3, ![1, 1, 1]⟩

abbrev nBuf : Space → Nat
  | .hbm => 48
  | .vmem => 0
  | .smem => 0
  | _ => 0

abbrev bufTy : (tb : Table) → Fin (tcTables nBuf tb) → BufTy
  | .hbm, ⟨0, _⟩ => ⟨S128x100000, .f32⟩
  | .hbm, ⟨1, _⟩ => ⟨S128x1, .i32⟩
  | .hbm, ⟨2, _⟩ => ⟨S_, .f32⟩
  | .hbm, ⟨3, _⟩ => ⟨S128, .f32⟩
  | .hbm, ⟨4, _⟩ => ⟨S_, .f32⟩
  | .hbm, ⟨5, _⟩ => ⟨S128, .f32⟩
  | .hbm, ⟨6, _⟩ => ⟨S128, .f32⟩
  | .hbm, ⟨7, _⟩ => ⟨S128x1, .f32⟩
  | .hbm, ⟨8, _⟩ => ⟨S128x100000, .f32⟩
  | .hbm, ⟨9, _⟩ => ⟨S128x100000, .f32⟩
  | .hbm, ⟨10, _⟩ => ⟨S128x100000, .f32⟩
  | .hbm, ⟨11, _⟩ => ⟨S_, .f32⟩
  | .hbm, ⟨12, _⟩ => ⟨S128, .f32⟩
  | .hbm, ⟨13, _⟩ => ⟨S128x1, .f32⟩
  | .hbm, ⟨14, _⟩ => ⟨S128x1, .f32⟩
  | .hbm, ⟨15, _⟩ => ⟨S128x100000, .f32⟩
  | .hbm, ⟨16, _⟩ => ⟨S128x100000, .f32⟩
  | .hbm, ⟨17, _⟩ => ⟨S_, .i32⟩
  | .hbm, ⟨18, _⟩ => ⟨S128x1, .i32⟩
  | .hbm, ⟨19, _⟩ => ⟨S128x1, .i1⟩
  | .hbm, ⟨20, _⟩ => ⟨S_, .i32⟩
  | .hbm, ⟨21, _⟩ => ⟨S128x1, .i32⟩
  | .hbm, ⟨22, _⟩ => ⟨S128x1, .i32⟩
  | .hbm, ⟨23, _⟩ => ⟨S128x1, .i32⟩
  | .hbm, ⟨24, _⟩ => ⟨S128x1x1, .i32⟩
  | .hbm, ⟨25, _⟩ => ⟨S1, .i32⟩
  | .hbm, ⟨26, _⟩ => ⟨S_, .i32⟩
  | .hbm, ⟨27, _⟩ => ⟨S128x1x1, .i32⟩
  | .hbm, ⟨28, _⟩ => ⟨S128x1x1, .i1⟩
  | .hbm, ⟨29, _⟩ => ⟨S1x1x1, .i32⟩
  | .hbm, ⟨30, _⟩ => ⟨S128x1x1, .i32⟩
  | .hbm, ⟨31, _⟩ => ⟨S128x1x1, .i1⟩
  | .hbm, ⟨32, _⟩ => ⟨S128x1x1, .i1⟩
  | .hbm, ⟨33, _⟩ => ⟨S_, .i1⟩
  | .hbm, ⟨34, _⟩ => ⟨S128x1, .i1⟩
  | .hbm, ⟨35, _⟩ => ⟨S128x1, .f32⟩
  | .hbm, ⟨36, _⟩ => ⟨S_, .f32⟩
  | .hbm, ⟨37, _⟩ => ⟨S128x1, .f32⟩
  | .hbm, ⟨38, _⟩ => ⟨S128x1, .f32⟩
  | .hbm, ⟨39, _⟩ => ⟨S_, .f32⟩
  | .hbm, ⟨40, _⟩ => ⟨S128, .f32⟩
  | .hbm, ⟨41, _⟩ => ⟨S128x1, .f32⟩
  | .hbm, ⟨42, _⟩ => ⟨S128x100000, .i32⟩
  | .hbm, ⟨43, _⟩ => ⟨S_, .f32⟩
  | .hbm, ⟨44, _⟩ => ⟨S_, .i32⟩
  | .hbm, ⟨45, _⟩ => ⟨S128, .f32⟩
  | .hbm, ⟨46, _⟩ => ⟨S128, .i32⟩
  | .hbm, ⟨47, _⟩ => ⟨S128x1, .i32⟩
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_call1_c : Ref sig .tc := ⟨.hbm, 17, rfl⟩
abbrev main_call1_v0 : Ref sig .tc := ⟨.hbm, 18, rfl⟩
abbrev main_call1_v1 : Ref sig .tc := ⟨.hbm, 19, rfl⟩
abbrev main_call1_c_0 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_c_1 : Ref sig .tc := ⟨.hbm, 25, rfl⟩
abbrev main_call1_c_2 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_call1_c_3 : Ref sig .tc := ⟨.hbm, 33, rfl⟩
abbrev main_call1_v12 : Ref sig .tc := ⟨.hbm, 34, rfl⟩
abbrev main_call1_v13 : Ref sig .tc := ⟨.hbm, 35, rfl⟩
abbrev main_call1_cst : Ref sig .tc := ⟨.hbm, 36, rfl⟩
abbrev main_call1_v14 : Ref sig .tc := ⟨.hbm, 37, rfl⟩
abbrev main_v1 : Ref sig .tc := ⟨.hbm, 38, rfl⟩
abbrev main_cst : Ref sig .tc := ⟨.hbm, 39, rfl⟩
abbrev main_v2 : Ref sig .tc := ⟨.hbm, 40, rfl⟩
abbrev main_v3 : Ref sig .tc := ⟨.hbm, 41, rfl⟩
abbrev main_call2_v0 : Ref sig .tc := ⟨.hbm, 42, rfl⟩
abbrev main_call2_cst : Ref sig .tc := ⟨.hbm, 43, rfl⟩
abbrev main_call2_c : Ref sig .tc := ⟨.hbm, 44, rfl⟩
abbrev main_call2_v1_0 : Ref sig .tc := ⟨.hbm, 45, rfl⟩
abbrev main_v4 : Ref sig .tc := ⟨.hbm, 46, rfl⟩
abbrev main_v5 : Ref sig .tc := ⟨.hbm, 47, rfl⟩

abbrev nD : Nat := 1
abbrev τ : Topo := Topo.v7x

variable {F : FTy → Type} [FloatOps F]
-- ==== Proof.Prog.lean ====
/-
  The tile program of the SparseCore call, written with names. One tile keeps, per lane of a row of 128, the running
  maximum, the index of its first occurrence, the running sum of exponentials and the gathered logit, in four buffers
  of 128 words; it reads the table in blocks of 200 rows through two buffers. The program below says this once per
  block (`procK`), once per row (`rowP`) and once per column of sixteen lanes (`colK`); `body_eq` says the printed
  function is it.
-/
module

public import Idealize.ShloMosaic.Lib.SparseCore.Ops
public import Idealize.ShloMosaic.Lib.Tactic
public import proofs.«01_k».proof.Proof.Gen.KernelIdeal
public import proofs.«01_k».proof.Proof.Gen.KernelIdeal.Skeleton

@[expose] public section

noncomputable section

namespace Cert.Proof.Tile

open Cert.KernelIdeal Cert.KernelIdeal.Gen
open Idealize.ShloMosaic Idealize.SL.Sem

variable {F : FTy → Type} [FloatOps F]

/-- Programs of the tile at grid point `i`. -/
abbrev PG (F : FTy → Type) [FloatOps F] (i : grid0.Coords) (α : Type) : Type _ :=
  Prog (TpuEff nD τ sig (Elt F) Λ₀ (.scVector ((i 0).castLE hcore0) ((i 1).castLE hsub0))) α

/-- The arrays, buffers and semaphores a tile works on. -/
structure Refs where
  x : Memref sig .scVector .hbm S100000x128 .f32
  hx : x.IsWhole
  act : Memref sig .scVector .hbm S128 .i32
  hact : act.IsWhole
  po : Memref sig .scVector .hbm S4x32x128 .f32
  hpo : po.IsWhole
  b0 : Memref sig .scVector .vmem S200x128 .f32
  hb0 : b0.IsWhole
  b1 : Memref sig .scVector .vmem S200x128 .f32
  hb1 : b1.IsWhole
  av : Memref sig .scVector .vmem S128 .i32
  hav : av.IsWhole
  m : Memref sig .scVector .vmem S128 .f32
  hm : m.IsWhole
  s : Memref sig .scVector .vmem S128 .f32
  hs : s.IsWhole
  g : Memref sig .scVector .vmem S128 .f32
  hg : g.IsWhole
  ix : Memref sig .scVector .vmem S128 .i32
  hix : ix.IsWhole
  fx : Memref sig .scVector .vmem S128 .f32
  hfx : fx.IsWhole
  q0 : DmaSems sig S_
  q1 : DmaSems sig S_
  r0 : DmaSems sig S_
  r1 : DmaSems sig S_
  r2 : DmaSems sig S_
  r3 : DmaSems sig S_
  r4 : DmaSems sig S_

/-- Eight values, chosen by column. -/
def sel8 {α : Type} (a0 a1 a2 a3 a4 a5 a6 a7 : α) : Fin 8 → α
  | 0 => a0 | 1 => a1 | 2 => a2 | 3 => a3 | 4 => a4 | 5 => a5 | 6 => a6 | 7 => a7

theorem col_inb (u : Fin 8) : ∀ a, (![16 * u.val] : Fin 1 → Nat) a + S16.size a ≤ S128.size a := by
  intro a
  match a with
  | 0 => show 16 * u.val + 16 ≤ 128; omega

/-- Column `u` of a buffer of 128 words: its lanes `16 u … 16 u + 15`. -/
abbrev colR (u : Fin 8) : Rect S128 := Rect.unit (s := S128) ![16 * u.val] S16.size (col_inb u)

variable {i : grid0.Coords} {α : Type}

def ld {e : EltTy} (b : Memref sig .scVector .vmem S128 e) (u : Fin 8) (k : Vec F S16 e → PG F i α) : PG F i α :=
  .op (.load b (colR u).toLoadRect (View.loadsAt_vmem h_S16)) k

def st {e : EltTy} (he : e.bits = 32) (b : Memref sig .scVector .vmem S128 e) (u : Fin 8) (w : Vec F S16 e) (k : PG F i α) : PG F i α :=
  .op (.store b (colR u) w Finset.univ (View.stores_vmem_bits_univ h_S16 he) (.inl rfl)) fun _ => k

def ld8 {e : EltTy} (b : Memref sig .scVector .vmem S128 e) (k : (Fin 8 → Vec F S16 e) → PG F i α) : PG F i α :=
  ld b 0 fun a0 => ld b 1 fun a1 => ld b 2 fun a2 => ld b 3 fun a3 => ld b 4 fun a4 => ld b 5 fun a5 => ld b 6 fun a6 => ld b 7 fun a7 =>
    k (sel8 a0 a1 a2 a3 a4 a5 a6 a7)

def do8 (f : Fin 8 → PG F i α → PG F i α) (k : PG F i α) : PG F i α :=
  f 0 (f 1 (f 2 (f 3 (f 4 (f 5 (f 6 (f 7 k)))))))

/-! ## A row -/

/-- The offset of row `t`, column `u` in a block. -/
abbrev rowOff (t : Fin k0_t2_loop.trips) (u : Fin 8) : Fin 2 → Nat :=
  ![(Scalar.indexCast (Scf.iv 0#32 1#32 t)).toNat, 16 * u.val]

theorem row_inb (t : Fin k0_t2_loop.trips) (u : Fin 8) : ∀ a, rowOff t u a + S1x16.size a ≤ S200x128.size a :=
  match u with
  | 0 => k0_off3_inb t | 1 => k0_off4_inb t | 2 => k0_off5_inb t | 3 => k0_off6_inb t
  | 4 => k0_off7_inb t | 5 => k0_off8_inb t | 6 => k0_off9_inb t | 7 => k0_off10_inb t

abbrev rowR (t : Fin k0_t2_loop.trips) (u : Fin 8) : Rect S200x128 :=
  Rect.unit (s := S200x128) (rowOff t u) S1x16.size (row_inb t u)

def ldRow (b : Memref sig .scVector .vmem S200x128 .f32) (t : Fin k0_t2_loop.trips) (u : Fin 8) (k : Vec F S1x16 .f32 → PG F i α) : PG F i α :=
  .op (.load b (rowR t u).toLoadRect (View.loadsAt_vmem h_S1x16)) k

def ldRow8 (b : Memref sig .scVector .vmem S200x128 .f32) (t : Fin k0_t2_loop.trips) (k : (Fin 8 → Vec F S1x16 .f32) → PG F i α) : PG F i α :=
  ldRow b t 0 fun a0 => ldRow b t 1 fun a1 => ldRow b t 2 fun a2 => ldRow b t 3 fun a3 => ldRow b t 4 fun a4 => ldRow b t 5 fun a5 =>
    ldRow b t 6 fun a6 => ldRow b t 7 fun a7 => k (sel8 a0 a1 a2 a3 a4 a5 a6 a7)

/-- What the loop over a block's rows carries: per column, maxima, indices and sums. -/
structure Carry (F : FTy → Type) where
  m : Fin 8 → Vec F S16 .f32
  i : Fin 8 → Vec F S16 .i32
  s : Fin 8 → Vec F S16 .f32

local notation "V₁" => Vec F S16 (EltTy.f FTy.f32)
local notation "W₁" => Vec F S16 (EltTy.i 32)

/-- The carried values as the loop holds them, -/
abbrev Tup (F : FTy → Type) : Type :=
  Vec F S16 .f32 × Vec F S16 .f32 × Vec F S16 .f32 × Vec F S16 .f32 × Vec F S16 .f32 × Vec F S16 .f32 × Vec F S16 .f32 × Vec F S16 .f32 ×
  Vec F S16 .i32 × Vec F S16 .i32 × Vec F S16 .i32 × Vec F S16 .i32 × Vec F S16 .i32 × Vec F S16 .i32 × Vec F S16 .i32 × Vec F S16 .i32 ×
  Vec F S16 .f32 × Vec F S16 .f32 × Vec F S16 .f32 × Vec F S16 .f32 × Vec F S16 .f32 × Vec F S16 .f32 × Vec F S16 .f32 × Vec F S16 .f32

def pack (c : Carry F) : Tup F :=
  (c.m 0, c.m 1, c.m 2, c.m 3, c.m 4, c.m 5, c.m 6, c.m 7, c.i 0, c.i 1, c.i 2, c.i 3, c.i 4, c.i 5, c.i 6, c.i 7,
    c.s 0, c.s 1, c.s 2, c.s 3, c.s 4, c.s 5, c.s 6, c.s 7)

/-- and back. -/
def unpack : Tup F → Carry F
  | (a0, a1, a2, a3, a4, a5, a6, a7, b0, b1, b2, b3, b4, b5, b6, b7, c0, c1, c2, c3, c4, c5, c6, c7) =>
    ⟨sel8 a0 a1 a2 a3 a4 a5 a6 a7, sel8 b0 b1 b2 b3 b4 b5 b6 b7, sel8 c0 c1 c2 c3 c4 c5 c6 c7⟩

/-- The row's index in the table, on every lane. -/
def rowIx (v0 : BitVec 32) (t : Fin k0_t2_loop.trips) : IVec S16 32 :=
  addi (broadcast S16 (0#32 : BitVec 32)) (broadcast S16 (Scalar.addi v0 (Scf.iv 0#32 1#32 t)))

/-- One row's update of one column. -/
def upM (x m : Vec F S16 .f32) : Vec F S16 .f32 := select (cmpf .ogt x m) x m
def upI (ix : IVec S16 32) (x m : Vec F S16 .f32) (a : Vec F S16 .i32) : Vec F S16 .i32 := select (cmpf .ogt x m) ix a
def upS (x s : Vec F S16 .f32) : Vec F S16 .f32 := addf s (exp x)

def row16 (x : Vec F S1x16 .f32) : Vec F S16 .f32 := shapeCast S16 x shapeCasts_S1x16_S16

/-- One row's update. -/
def step (ix : IVec S16 32) (X : Fin 8 → Vec F S1x16 .f32) (c : Carry F) : Carry F where
  m u := upM (row16 (X u)) (c.m u)
  i u := upI ix (row16 (X u)) (c.m u) (c.i u)
  s u := upS (row16 (X u)) (c.s u)

def rowP (b : Memref sig .scVector .vmem S200x128 .f32) (v0 : BitVec 32) (t : Fin k0_t2_loop.trips) (c : Tup F) : PG F i (Tup F) :=
  ldRow8 b t fun X => .ret (pack (step (rowIx v0 t) X (unpack c)))

/-! ## A column -/

/-- What the program checks before it gathers: a proposition over the two index vectors, implied by their being in
    range. -/
structure Chk where
  p : Fin 8 → IVec S16 32 → IVec S16 32 → Prop
  d : ∀ u a b, Decidable (p u a b)
  sound : ∀ u a b, p u a b → ∀ l x, ((![a, b] : Fin 2 → IVec S16 32) l x).toNat < S200x128.size l
  holds : ∀ u a b, (∀ l x, ((![a, b] : Fin 2 → IVec S16 32) l x).toNat < S200x128.size l) → p u a b

def chkA : Chk where
  p _ := k0_chk1
  d _ := k0_chk1.dec
  sound _ _ _ h := h
  holds _ _ _ h := h

def chkB (i : grid0.Coords) (h3 : k0_cond3 i = 1#1) : Chk where
  p _ := k0_chk25 i
  d _ := k0_chk25.dec i
  sound _ _ _ h := h h3
  holds _ _ _ h := fun _ => h

def locI (a : Vec F S16 .i32) (v0 : BitVec 32) : IVec S16 32 := subi a (broadcast S16 v0)
def inB (a : Vec F S16 .i32) (v0 : BitVec 32) : IVec S16 1 :=
  andi (cmpi .sge (locI a v0) (broadcast S16 (0#32 : BitVec 32))) (cmpi .slt (locI a v0) (broadcast S16 (200#32 : BitVec 32)))
def clampI (a : Vec F S16 .i32) (v0 : BitVec 32) : IVec S16 32 :=
  minsi (broadcast S16 (199#32 : BitVec 32)) (maxsi (broadcast S16 (0#32 : BitVec 32)) (locI a v0))

/-- The tile's lane numbers `0 … 15`, -/
def lanes : IVec S16 32 := iota .scVector S16 32 [0] iota_S16_d0_w32_scVector
/-- and column `u`'s. -/
def colIx (u : Fin 8) : IVec S16 32 := addi (broadcast S16 (BitVec.ofNat 32 (16 * u.val))) lanes

def upG (a : Vec F S16 .i32) (v0 : BitVec 32) (gv g : Vec F S16 .f32) : Vec F S16 .f32 :=
  addf g (select (inB a v0) gv (broadcast S16 (Scalar.ofBits .f32 0x00000000#32 : F .f32)))

/-- The gather of a block at a column. -/
def gath (b : Memref sig .scVector .vmem S200x128 .f32) (C : Chk) (u : Fin 8) (a : Vec F S16 .i32) (v0 : BitVec 32)
    (k : Vec F S16 .f32 → PG F i α) : PG F i α :=
  .op (.assume (C.p u (clampI a v0) (colIx u)) (C.d u (clampI a v0) (colIx u))) fun h =>
    (SparseCore.vectorLoadIdx b ![clampI a v0, colIx u] (C.sound u _ _ h.down) (View.loads_vmem h_S200x128)).bind k

variable (R : Refs)

/-- A column after the block's rows: the running values go back, the gathered logit is added. -/
def colK (b : Memref sig .scVector .vmem S200x128 .f32) (C : Chk) (v0 : BitVec 32) (c : Carry F) (u : Fin 8) (k : PG F i α) : PG F i α :=
  ld R.m u fun _ => st rfl R.m u (c.m u) <|
  ld R.ix u fun _ => st rfl R.ix u (c.i u) <|
  ld R.s u fun _ => st rfl R.s u (c.s u) <|
  ld R.av u fun a => gath b C u a v0 fun gv =>
  ld R.g u fun g => ld R.g u fun _ => st rfl R.g u (upG a v0 gv g) k

/-- A block. -/
def procK (b : Memref sig .scVector .vmem S200x128 .f32) (C : Chk) (v0 : BitVec 32) (k : PG F i α) : PG F i α :=
  ld8 R.m fun M => ld8 R.ix fun I => ld8 R.s fun S =>
    (Scf.Loop.for k0_t2_loop k0_t2_ok (pack ⟨M, I, S⟩) fun t c => rowP b v0 t c) >>= fun c =>
      do8 (colK R b C v0 (unpack c)) k

/-! ## The copies -/

abbrev xBlk (off : Fin 2 → Nat) (h : ∀ a, off a + S200x128.size a ≤ S100000x128.size a) : Memref sig .scVector .hbm S200x128 .f32 :=
  R.x.slice (Rect.unit (s := S100000x128) off S200x128.size h) (fun _ => rfl)

def issue (off : Fin 2 → Nat) (h : ∀ a, off a + S200x128.size a ≤ S100000x128.size a) (b : Memref sig .scVector .vmem S200x128 .f32)
    (hb : b.IsWhole) (q : DmaSems sig S_) (k : PG F i α) : PG F i α :=
  .op (.enqueueDma (xBlk R off h) (.here b) (.dma q.sem) (View.wordExact_bits rfl) hb.wordExact ⟨Or.inl rfl, trivial⟩) fun _ => k

def await (b : Memref sig .scVector .vmem S200x128 .f32) (hb : b.IsWhole) (q : DmaSems sig S_) (k : PG F i α) : PG F i α :=
  .op (.waitDma2 q.sem (xBlk R ![0, 0] inb_S100000x128_S200x128_0_0) b (View.wordExact_bits rfl) hb.wordExact) fun _ => k

def fetchAct (k : PG F i α) : PG F i α :=
  .op (.enqueueDma R.act (.here R.av) (.dma R.r0.sem) R.hact.wordExact R.hav.wordExact ⟨Or.inl rfl, trivial⟩) fun _ =>
  .op (.waitDma2 R.r0.sem R.act R.av R.hact.wordExact R.hav.wordExact) fun _ => k

abbrev poRow (off : Fin 3 → Nat) (h : ∀ a, off a + S1x1x128.size a ≤ S4x32x128.size a) : Memref sig .scVector .hbm S128 .f32 :=
  (R.po.slice (Rect.unit (s := S4x32x128) off S1x1x128.size h) (fun _ => rfl)).squeeze S128 squeezes_S1x1x128_S128

def putRow (b : Memref sig .scVector .vmem S128 .f32) (hb : b.IsWhole) (off : Fin 3 → Nat) (h : ∀ a, off a + S1x1x128.size a ≤ S4x32x128.size a)
    (q : DmaSems sig S_) (k : PG F i α) : PG F i α :=
  .op (.enqueueDma b (.here (poRow R off h)) (.dma q.sem) hb.wordExact ((View.wordExact_bits rfl).reshape _ _) ⟨Or.inl rfl, trivial⟩) fun _ =>
  .op (.waitDma2 q.sem b (poRow R off h) hb.wordExact ((View.wordExact_bits rfl).reshape _ _)) fun _ => k

/-! ## The whole -/

/-- The tile's number among the thirty-two. -/
def wid (i : grid0.Coords) : BitVec 32 := Scalar.addi (Scalar.muli (BitVec.ofNat 32 (i 1).val) (2#32 : BitVec 32)) (BitVec.ofNat 32 (i 0).val)

def initCol (u : Fin 8) (k : PG F i α) : PG F i α :=
  ld R.m u fun _ => st rfl R.m u (broadcast S16 (Scalar.ofBits .f32 0xFF7FFFFF#32 : F .f32)) <|
  ld R.s u fun _ => st rfl R.s u (broadcast S16 (Scalar.ofBits .f32 0x00000000#32 : F .f32)) <|
  ld R.g u fun _ => st rfl R.g u (broadcast S16 (Scalar.ofBits .f32 0x00000000#32 : F .f32)) <|
  ld R.ix u fun _ => st rfl R.ix u (broadcast S16 (0#32 : BitVec 32)) k

def cvtCol (u : Fin 8) (k : PG F i α) : PG F i α :=
  ld R.ix u fun a => ld R.fx u fun _ => st rfl R.fx u (sitofp .f32 a : FVec F S16 .f32) k

/-- The first block of a trip. -/
def blk0 (i : grid0.Coords) (t : Fin k0_t1_loop.trips) : BitVec 32 :=
  Scalar.addi (Scalar.muli (Scalar.muli (2#32 : BitVec 32) (Scf.iv 0#32 1#32 t)) (32#32 : BitVec 32)) (wid i)

/-- One trip of the main loop: a block from each buffer, each refilled behind it. -/
def tripP (t : Fin k0_t1_loop.trips) : PG F i PUnit :=
  await R R.b0 R.hb0 R.q0 <|
  procK R R.b0 chkA (Scalar.muli (blk0 i t) (200#32 : BitVec 32)) <|
  issue R (k0_off11 i t) (k0_off11_inb i t) R.b0 R.hb0 R.q0 <|
  await R R.b1 R.hb1 R.q1 <|
  procK R R.b1 chkA (Scalar.muli (Scalar.addi (blk0 i t) (32#32 : BitVec 32)) (200#32 : BitVec 32)) <|
  if h : k0_cond1 t = 1#1 then issue R (k0_off20 i t) (k0_off20_inb i t h) R.b1 R.hb1 R.q1 (.ret ⟨⟩) else .ret ⟨⟩

def finish : PG F i PUnit :=
  do8 (cvtCol R) <|
  putRow R R.m R.hm (k0_off38 i) (k0_off38_inb i) R.r1 <|
  putRow R R.s R.hs (k0_off39 i) (k0_off39_inb i) R.r2 <|
  putRow R R.fx R.hfx (k0_off40 i) (k0_off40_inb i) R.r3 <|
  putRow R R.g R.hg (k0_off41 i) (k0_off41_inb i) R.r4 (.ret ⟨⟩)

def extra (k : PG F i α) : PG F i α :=
  if h3 : k0_cond3 i = 1#1 then
    await R R.b1 R.hb1 R.q1 <|
    procK R R.b1 (chkB i h3) (Scalar.muli (Scalar.addi (480#32 : BitVec 32) (wid i)) (200#32 : BitVec 32)) k
  else k

def refill (k : PG F i α) : PG F i α :=
  if h2 : k0_cond2 i = 1#1 then issue R (k0_off21 i) (k0_off21_inb i h2) R.b1 R.hb1 R.q1 k else k

def body : PG F i PUnit :=
  fetchAct R <|
  do8 (initCol R) <|
  issue R (k0_off1 i) (k0_off1_inb i) R.b0 R.hb0 R.q0 <|
  issue R (k0_off2 i) (k0_off2_inb i) R.b1 R.hb1 R.q1 <|
  (Scf.Loop.for k0_t1_loop k0_t1_ok ⟨⟩ fun t _ => tripP R t) >>= fun _ =>
  refill R <|
  await R R.b0 R.hb0 R.q0 <|
  procK R R.b0 chkA (Scalar.muli (Scalar.addi (448#32 : BitVec 32) (wid i)) (200#32 : BitVec 32)) <|
  extra R <| finish R

theorem bind_dite {c : Prop} [Decidable c] {β γ : Type _} (p : c → PG F i β) (q : ¬ c → PG F i β) (k : β → PG F i γ) :
    (dite c p q >>= k) = dite c (fun h => p h >>= k) (fun h => q h >>= k) := by
  split <;> rfl

theorem for_congr {w : Nat} {β : Type} {γ : Type _} (L : Scf.Loop w) (ok : L.OK) {a a' : β} {f f' : Fin L.trips → β → PG F i β} {k k' : β → PG F i γ}
    (h1 : a = a') (h2 : ∀ t c, f t c = f' t c) (h3 : ∀ c, k c = k' c) :
    ((Scf.Loop.for L ok a f) >>= k) = ((Scf.Loop.for L ok a' f') >>= k') := by
  obtain rfl := h1
  obtain rfl : f = f' := funext fun t => funext (h2 t)
  obtain rfl : k = k' := funext h3
  rfl

set_option maxRecDepth 65536 in
set_option maxHeartbeats 40000000 in
/-- The printed function is the program above. -/
theorem body_eq :
    cc0__sc_body (F := F) i R.x R.hx R.act R.hact R.po R.hpo R.b0 R.hb0 R.b1 R.hb1 R.av R.hav R.m R.hm R.s R.hs R.g R.hg R.ix R.hix R.fx R.hfx
      R.q0 R.q1 R.r0 R.r1 R.r2 R.r3 R.r4 = body R := by
  unfold cc0__sc_body
  simp only [k0_part27_eq_skeleton, k0_part28_eq_skeleton, k0_part33_eq_skeleton, k0_part19_eq_skeleton,
    k0_part27_skel, k0_part28_skel, k0_part33_skel, k0_part19_skel, Prog.bind_assoc, bind_dite]
  repeat refine congrArg (Prog.op _) (funext fun _ => ?_)
  refine for_congr _ _ rfl (fun t _ => ?_) (fun _ => ?_)
  · simp only [k0_t1_body, k0_part4_eq_skeleton, k0_part10_eq_skeleton, k0_part4_skel, k0_part10_skel, Prog.bind_assoc, bind_dite]
    repeat refine congrArg (Prog.op _) (funext fun _ => ?_)
    refine for_congr _ _ rfl (fun t _ => ?_) (fun _ => ?_)
    · rfl
    repeat refine congrArg (Prog.op _) (funext fun _ => ?_)
    refine for_congr _ _ rfl (fun t _ => ?_) (fun _ => ?_)
    · rfl
    repeat refine congrArg (Prog.op _) (funext fun _ => ?_)
    rfl
  refine dite_congr rfl (fun h => ?_) (fun h => ?_)
  all_goals
    repeat refine congrArg (Prog.op _) (funext fun _ => ?_)
    refine for_congr _ _ rfl (fun t _ => ?_) (fun _ => ?_)
    · rfl
    repeat refine congrArg (Prog.op _) (funext fun _ => ?_)
    refine dite_congr rfl (fun h => ?_) (fun h => ?_)
    · repeat refine congrArg (Prog.op _) (funext fun _ => ?_)
      refine for_congr _ _ rfl (fun t _ => ?_) (fun _ => ?_)
      · rfl
      rfl
    rfl

end Cert.Proof.Tile

end
-- ==== Proof.Spec.lean ====
/-
  What a block does to a tile's running values, over any float values: the state is four vectors of 128 lanes, a
  block of 200 rows updates it (`blkStep`).
-/
module

public import proofs.«01_k».proof.Proof.Prog

@[expose] public section

noncomputable section

namespace Cert.Proof.Tile

open Cert.KernelIdeal Cert.KernelIdeal.Gen
open Idealize.ShloMosaic Idealize.SL.Sem

variable {F : FTy → Type} [FloatOps F]

/-! ## Columns of a vector of 128 lanes -/

/-- Column `u` of the lanes. -/
def col {e : EltTy} (v : Vec F S128 e) (u : Fin 8) : Vec F S16 e := fun x => v ((colR u).emb x)

/-- A lane's column and its place there. -/
def colOf (j : S128.Idx) : Fin 8 := ⟨(j 0).val / 16, by have : (j 0).val < 128 := (j 0).isLt; omega⟩
def inCol (j : S128.Idx) : S16.Idx := fun a => ⟨(j 0).val % 16, by
  match a with
  | 0 => exact Nat.mod_lt _ (by decide)⟩

theorem emb_col_val (u : Fin 8) (x : S16.Idx) : ((colR u).emb x 0).val = 16 * u.val + (x 0).val := by
  show 16 * u.val + 1 * (x 0).val = _
  omega

theorem idx16_lt (x : S16.Idx) : (x 0).val < 16 := (x 0).isLt

theorem colOf_emb (u : Fin 8) (x : S16.Idx) : colOf ((colR u).emb x) = u := by
  apply Fin.ext
  have h := emb_col_val u x
  have := idx16_lt x
  show ((colR u).emb x 0).val / 16 = u.val
  omega

theorem inCol_emb (u : Fin 8) (x : S16.Idx) : inCol ((colR u).emb x) = x := by
  funext a
  match a with
  | 0 =>
    apply Fin.ext
    have h := emb_col_val u x
    have := idx16_lt x
    show ((colR u).emb x 0).val % 16 = (x 0).val
    omega

theorem emb_inCol (j : S128.Idx) : (colR (colOf j)).emb (inCol j) = j := by
  funext a
  match a with
  | 0 =>
    apply Fin.ext
    rw [emb_col_val]
    show 16 * ((j 0).val / 16) + (j 0).val % 16 = (j 0).val
    omega

/-- The vector of given columns, -/
def join {e : EltTy} (c : Fin 8 → Vec F S16 e) : Vec F S128 e := fun j => c (colOf j) (inCol j)

/-- and a vector whose columns below `n` are replaced. -/
def mix {e : EltTy} (n : ℕ) (c : Fin 8 → Vec F S16 e) (v : Vec F S128 e) : Vec F S128 e :=
  fun j => if (colOf j).val < n then c (colOf j) (inCol j) else v j

/-- A vector with one column replaced. -/
def setCol {e : EltTy} (v : Vec F S128 e) (u : Fin 8) (w : Vec F S16 e) : Vec F S128 e :=
  fun j => if colOf j = u then w (inCol j) else v j

theorem mix_zero {e : EltTy} (c : Fin 8 → Vec F S16 e) (v : Vec F S128 e) : mix 0 c v = v := by
  funext j; simp [mix]

theorem mix_eight {e : EltTy} (c : Fin 8 → Vec F S16 e) (v : Vec F S128 e) : mix 8 c v = join c := by
  funext j; simp [mix, join, (colOf j).isLt]

theorem setCol_mix {e : EltTy} (c : Fin 8 → Vec F S16 e) (v : Vec F S128 e) (u : Fin 8) :
    setCol (mix u.val c v) u (c u) = mix (u.val + 1) c v := by
  funext j
  unfold setCol mix
  by_cases h : colOf j = u
  · rw [if_pos h, if_pos (by rw [h]; omega), h]
  · have : (colOf j).val ≠ u.val := fun h' => h (Fin.ext h')
    rw [if_neg h]
    by_cases h' : (colOf j).val < u.val
    · rw [if_pos h', if_pos (by omega)]
    · rw [if_neg h', if_neg (by omega)]

theorem col_mix {e : EltTy} (c : Fin 8 → Vec F S16 e) (v : Vec F S128 e) (u : Fin 8) : col (mix u.val c v) u = col v u := by
  funext x
  show mix u.val c v ((colR u).emb x) = v ((colR u).emb x)
  unfold mix
  rw [if_neg (by rw [colOf_emb]; omega)]

theorem col_join {e : EltTy} (c : Fin 8 → Vec F S16 e) (u : Fin 8) : col (join c) u = c u := by
  funext x
  show join c ((colR u).emb x) = c u x
  unfold join
  rw [colOf_emb, inCol_emb]

theorem sel8_eta {α : Type} (f : Fin 8 → α) : sel8 (f 0) (f 1) (f 2) (f 3) (f 4) (f 5) (f 6) (f 7) = f := by
  funext u
  match u with
  | 0 => rfl | 1 => rfl | 2 => rfl | 3 => rfl | 4 => rfl | 5 => rfl | 6 => rfl | 7 => rfl

theorem unpack_pack (c : Carry F) : unpack (pack c) = c := by
  cases c
  show Carry.mk _ _ _ = _
  rw [sel8_eta, sel8_eta, sel8_eta]

/-! ## A block -/

/-- The row `t` of a block, by columns. -/
def rowOf (B : Vec F S200x128 .f32) (t : Fin k0_t2_loop.trips) (u : Fin 8) : Vec F S1x16 .f32 := fun x => B ((rowR t u).emb x)

/-- The carried values after `n` rows. -/
def rows (B : Vec F S200x128 .f32) (v0 : BitVec 32) (c : Carry F) : ℕ → Carry F
  | 0 => c
  | n + 1 => if h : n < k0_t2_loop.trips then step (rowIx v0 ⟨n, h⟩) (rowOf B ⟨n, h⟩) (rows B v0 c n) else rows B v0 c n

theorem rows_succ (B : Vec F S200x128 .f32) (v0 : BitVec 32) (c : Carry F) (t : Fin k0_t2_loop.trips) :
    rows B v0 c (t.val + 1) = step (rowIx v0 t) (rowOf B t) (rows B v0 c t.val) := by
  rw [rows, dif_pos t.isLt]

/-- A tile's running values. -/
structure St (F : FTy → Type) where
  m : Vec F S128 .f32
  i : Vec F S128 .i32
  s : Vec F S128 .f32
  g : Vec F S128 .f32

def St.carry (σ : St F) : Carry F := ⟨col σ.m, col σ.i, col σ.s⟩

theorem clamp_lt (x : BitVec 32) : (IntOp.minsi (199#32) (IntOp.maxsi (0#32) x)).toNat < 200 := by
  have h0 : (0#32 : BitVec 32).toInt = 0 := rfl
  have h1 : (199#32 : BitVec 32).toInt = 199 := rfl
  have hx := BitVec.toInt_eq_toNat_cond x
  unfold IntOp.minsi IntOp.maxsi
  simp only [BitVec.slt, decide_eq_true_eq, h0, h1]
  by_cases c : x.toInt < 0
  · rw [if_pos c]; decide
  · rw [if_neg c]
    by_cases c' : (199 : Int) < x.toInt
    · rw [if_pos c']; decide
    · rw [if_neg c']
      split at hx <;> omega

theorem lanes_apply (x : S16.Idx) : lanes x = BitVec.ofNat 32 (x 0).val := by
  show BitVec.ofNat 32 _ = _
  simp

theorem colIx_toNat (u : Fin 8) (x : S16.Idx) : (colIx u x).toNat = 16 * u.val + (x 0).val := by
  show (BitVec.ofNat 32 (16 * u.val) + lanes x).toNat = _
  rw [lanes_apply]
  have := idx16_lt x
  simp
  omega

/-- The gather's indices are in range whatever the selected index is. -/
theorem gath_inb (a : Vec F S16 .i32) (v0 : BitVec 32) (u : Fin 8) :
    ∀ l x, ((![clampI a v0, colIx u] : Fin 2 → IVec S16 32) l x).toNat < S200x128.size l := by
  intro l x
  match l with
  | 0 => exact clamp_lt _
  | 1 =>
    show (colIx u x).toNat < 128
    rw [colIx_toNat]
    have := idx16_lt x
    omega

/-- What is gathered of a block at column `u`. -/
def gat (B : Vec F S200x128 .f32) (a : Vec F S16 .i32) (v0 : BitVec 32) (u : Fin 8) : Vec F S16 .f32 :=
  loadIdx B ![clampI a v0, colIx u] (gath_inb a v0 u)

/-- A block's update of the state: rows in order, then the gather. -/
def blkStep (act : Vec F S128 .i32) (B : Vec F S200x128 .f32) (v0 : BitVec 32) (σ : St F) : St F where
  m := join (rows B v0 σ.carry k0_t2_loop.trips).m
  i := join (rows B v0 σ.carry k0_t2_loop.trips).i
  s := join (rows B v0 σ.carry k0_t2_loop.trips).s
  g := join fun u => upG (col act u) v0 (gat B (col act u) v0 u) (col σ.g u)

/-- The state a tile starts at. -/
def st0 : St F where
  m := fun _ => Scalar.ofBits .f32 0xFF7FFFFF#32
  i := fun _ => 0#32
  s := fun _ => Scalar.ofBits .f32 0x00000000#32
  g := fun _ => Scalar.ofBits .f32 0x00000000#32

end Cert.Proof.Tile

end
-- ==== Proof.Wp.lean ====
/-
  The tile program's local steps: what each does to the buffers it holds, up to one block (`wp_procK`).
-/
module

public import Idealize.ShloMosaic.Lib.SparseCore.Quiescent
public import Idealize.ShloMosaic.Lib.Pipeline.Kit
public import proofs.«01_k».proof.Proof.Spec

@[expose] public section

noncomputable section

namespace Cert.Proof.Tile

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The handshakes' rounds, the staging cells' rounds, and the counters of the transfers. -/
abbrev UH : Type := Rounds.URounds (GSem nD τ sig) ℕ
abbrev UU : Type := UH × (UR sig nD τ × Counters)

local notation "𝕄" => MT nD τ sig (HIx 1) (Elt F) ℕ UU ℕ

abbrev 𝒱₀ : Variants := Variants.none

/-- The tile of grid point `i` on device `d`. -/
abbrev thr (d : Dev nD) (i : grid0.Coords) : Thread nD τ := (d, .scVector ((i 0).castLE hcore0) ((i 1).castLE hsub0))

variable (d : Dev nD) {i : grid0.Coords} {α : Type} {Q : α → sProp (MT nD τ sig (HIx 1) (Elt F) ℕ UU ℕ)}

/-- The run of a tile's program. -/
abbrev run (p : PG F i α) (Q : α → sProp 𝕄) : sProp 𝕄 := wp frame (wpE (defs₀ (F := F)) 𝒱₀ (thr d i) none) Set.univ p Q

/-- A buffer of a tile's or a part of an array, held outright and reading `v`. -/
def hold (i : grid0.Coords) {sp : Space} {s : Shape} {e : EltTy} (b : Memref sig .scVector sp s e) (v : Vec F s e) : sProp 𝕄 :=
  iprop(∃ f : Buf (Elt F) (b.view.loc (thr d i)), ⌜b.view.read (Elt F) f = v⌝ ∗ (b.view.loc (thr d i) ↦[b.view.set]{fullShare} f))

/-- A buffer held with whatever contents. -/
def held0 (i : grid0.Coords) {sp : Space} {s : Shape} {e : EltTy} (b : Memref sig .scVector sp s e) : sProp 𝕄 := iprop(∃ v : Vec F s e, hold d i b v)

theorem hold_any {sp : Space} {s : Shape} {e : EltTy} (b : Memref sig .scVector sp s e) (v : Vec F s e) :
    hold d i b v ⊢ held0 (F := F) d i b := by
  unfold held0; iintro H; iexists v; iexact H

theorem wp_ld {e : EltTy} (b : Memref sig .scVector .vmem S128 e) (u : Fin 8) (v : Vec F S128 e) (k : Vec F S16 e → PG F i α) :
    hold d i b v ⊢ iprop((hold d i b v -∗ run d (k (col v u)) Q) -∗ run d (ld b u k) Q) := by
  unfold hold ld
  iintro ⟨%f, %hf, H⟩ Hk
  iapply (wp_load_rect 𝒱₀ (thr d i) none Set.univ (m := b) (r := colR u) (View.set_slice_subset _ _)) $$ H
  iintro H
  rw [show (b.access (colR u)).read (Elt F) f = col v u from by subst hf; rfl]
  iapply Hk
  iexists f
  isplitr; · ipureintro; exact hf
  iexact H

theorem read_st {e : EltTy} (b : Memref sig .scVector .vmem S128 e) (u : Fin 8) (f : b.view.ty.Contents (Elt F)) (w : Vec F S16 e) :
    b.view.read (Elt F) ((b.access (colR u)).write (Elt F) f w Finset.univ) = setCol (b.view.read (Elt F) f) u w := by
  funext j
  unfold setCol
  by_cases h : colOf j = u
  · rw [if_pos h]
    conv_lhs => rw [← emb_inCol j, h]
    exact View.read_slice_write_emb (v := b.view) (Val := Elt F) (colR u) f w (Finset.mem_univ _)
  · rw [if_neg h]
    refine View.read_slice_write_of_not_mem (v := b.view) (Val := Elt F) (colR u) f w Finset.univ fun hm => h ?_
    obtain ⟨x, -, rfl⟩ := Finset.mem_map.mp hm
    exact colOf_emb u x

theorem wp_st {e : EltTy} (he : e.bits = 32) (b : Memref sig .scVector .vmem S128 e) (u : Fin 8) (v : Vec F S128 e) (w : Vec F S16 e)
    (k : PG F i α) :
    hold d i b v ⊢ iprop((hold d i b (setCol v u w) -∗ run d k Q) -∗ run d (st he b u w k) Q) := by
  unfold hold st
  iintro ⟨%f, %hf, H⟩ Hk
  iapply (wp_store 𝒱₀ (thr d i) none Set.univ (m := b) (r := colR u) (View.set_slice_subset _ _)) $$ H
  iintro H
  iapply Hk
  iexists _
  isplitr; · ipureintro; exact (read_st b u f w).trans (by rw [hf])
  iexact H

theorem wp_ld8 {e : EltTy} (b : Memref sig .scVector .vmem S128 e) (v : Vec F S128 e) (k : (Fin 8 → Vec F S16 e) → PG F i α) :
    hold d i b v ⊢ iprop((hold d i b v -∗ run d (k (col v)) Q) -∗ run d (ld8 b k) Q) := by
  unfold ld8
  iintro H Hk
  iapply (wp_ld d b 0 v _) $$ H; iintro H
  iapply (wp_ld d b 1 v _) $$ H; iintro H
  iapply (wp_ld d b 2 v _) $$ H; iintro H
  iapply (wp_ld d b 3 v _) $$ H; iintro H
  iapply (wp_ld d b 4 v _) $$ H; iintro H
  iapply (wp_ld d b 5 v _) $$ H; iintro H
  iapply (wp_ld d b 6 v _) $$ H; iintro H
  iapply (wp_ld d b 7 v _) $$ H; iintro H
  rw [sel8_eta (col v)]
  iapply Hk $$ H

theorem wp_ldRow (b : Memref sig .scVector .vmem S200x128 .f32) (t : Fin k0_t2_loop.trips) (u : Fin 8) (B : Vec F S200x128 .f32)
    (k : Vec F S1x16 .f32 → PG F i α) :
    hold d i b B ⊢ iprop((hold d i b B -∗ run d (k (rowOf B t u)) Q) -∗ run d (ldRow b t u k) Q) := by
  unfold hold ldRow
  iintro ⟨%f, %hf, H⟩ Hk
  iapply (wp_load_rect 𝒱₀ (thr d i) none Set.univ (m := b) (r := rowR t u) (View.set_slice_subset _ _)) $$ H
  iintro H
  rw [show (b.access (rowR t u)).read (Elt F) f = rowOf B t u from by subst hf; rfl]
  iapply Hk
  iexists f
  isplitr; · ipureintro; exact hf
  iexact H

theorem wp_rowP (b : Memref sig .scVector .vmem S200x128 .f32) (v0 : BitVec 32) (t : Fin k0_t2_loop.trips) (c : Carry F) (B : Vec F S200x128 .f32)
    {Q : Tup F → sProp 𝕄} :
    hold d i b B ⊢ iprop((hold d i b B -∗ Q (pack (step (rowIx v0 t) (rowOf B t) c))) -∗ run d (i := i) (rowP b v0 t (pack c)) Q) := by
  unfold rowP ldRow8
  iintro H Hk
  iapply (wp_ldRow d b t 0 B _) $$ H; iintro H
  iapply (wp_ldRow d b t 1 B _) $$ H; iintro H
  iapply (wp_ldRow d b t 2 B _) $$ H; iintro H
  iapply (wp_ldRow d b t 3 B _) $$ H; iintro H
  iapply (wp_ldRow d b t 4 B _) $$ H; iintro H
  iapply (wp_ldRow d b t 5 B _) $$ H; iintro H
  iapply (wp_ldRow d b t 6 B _) $$ H; iintro H
  iapply (wp_ldRow d b t 7 B _) $$ H; iintro H
  rw [sel8_eta (rowOf B t), unpack_pack]
  beta_reduce
  unfold run
  rw [wp_ret]
  imodintro
  iapply Hk $$ H

theorem wp_gath (b : Memref sig .scVector .vmem S200x128 .f32) (C : Chk) (u : Fin 8) (a : Vec F S16 .i32) (v0 : BitVec 32)
    (B : Vec F S200x128 .f32) (k : Vec F S16 .f32 → PG F i α) :
    hold d i b B ⊢ iprop((hold d i b B -∗ run d (k (gat B a v0 u)) Q) -∗ run d (gath b C u a v0 k) Q) := by
  unfold hold gath
  iintro ⟨%f, %hf, H⟩ Hk
  iapply (wp_assume 𝒱₀ (thr d i) none Set.univ (C.holds u _ _ (gath_inb a v0 u)))
  iapply (SparseCore.wp_vectorLoadIdx 𝒱₀ (thr d i) none Set.univ (base := b) (View.set_slice_subset _ _)) $$ H
  iintro H
  rw [show (b.access (Rect.whole S200x128)).read (Elt F) f = B from by
    subst hf; funext x; show _ = b.view.read (Elt F) f x; rw [View.read_apply, View.read_apply]
    show _root_.cast _ (f (b.view.emb ((Rect.whole S200x128).emb x))) = _
    rw [Rect.emb_whole_apply]]
  iapply Hk
  iexists f
  isplitr; · ipureintro; exact hf
  iexact H

theorem wp_do8 (f : Fin 8 → PG F i α → PG F i α) (H : ℕ → sProp 𝕄)
    (h : ∀ u k, H u.val ⊢ iprop((H (u.val + 1) -∗ run d k Q) -∗ run d (f u k) Q)) (k : PG F i α) :
    H 0 ⊢ iprop((H 8 -∗ run d k Q) -∗ run d (do8 f k) Q) := by
  have h' : ∀ (u : Fin 8) (n n' : ℕ), u.val = n → n + 1 = n' → ∀ k,
      H n ⊢ iprop((H n' -∗ run d k Q) -∗ run d (f u k) Q) := by
    intro u n n' hn hn' k; subst hn; subst hn'; exact h u k
  unfold do8
  iintro H Hk
  iapply (h' 0 0 1 rfl rfl _) $$ H; iintro H
  iapply (h' 1 1 2 rfl rfl _) $$ H; iintro H
  iapply (h' 2 2 3 rfl rfl _) $$ H; iintro H
  iapply (h' 3 3 4 rfl rfl _) $$ H; iintro H
  iapply (h' 4 4 5 rfl rfl _) $$ H; iintro H
  iapply (h' 5 5 6 rfl rfl _) $$ H; iintro H
  iapply (h' 6 6 7 rfl rfl _) $$ H; iintro H
  iapply (h' 7 7 8 rfl rfl _) $$ H; iintro H
  iapply Hk $$ H

variable (R : Refs)

/-- The tile's state in its four buffers. -/
def holdSt (i : grid0.Coords) (σ : St F) : sProp 𝕄 := iprop(hold d i R.m σ.m ∗ hold d i R.ix σ.i ∗ hold d i R.s σ.s ∗ hold d i R.g σ.g)

/-- The state with the columns below `n` taken from `σ'`. -/
def St.mix (n : ℕ) (c : Carry F) (g : Fin 8 → Vec F S16 .f32) (σ : St F) : St F :=
  ⟨Tile.mix n c.m σ.m, Tile.mix n c.i σ.i, Tile.mix n c.s σ.s, Tile.mix n g σ.g⟩

theorem wp_colK (b : Memref sig .scVector .vmem S200x128 .f32) (C : Chk) (v0 : BitVec 32) (c : Carry F) (act : Vec F S128 .i32)
    (B : Vec F S200x128 .f32) (σ : St F) (u : Fin 8) (k : PG F i α) :
    iprop(hold d i R.av act ∗ hold d i b B ∗ holdSt d R i (σ.mix u.val c fun u => upG (col act u) v0 (gat B (col act u) v0 u) (col σ.g u)))
      ⊢ iprop((iprop(hold d i R.av act ∗ hold d i b B
          ∗ holdSt d R i (σ.mix (u.val + 1) c fun u => upG (col act u) v0 (gat B (col act u) v0 u) (col σ.g u))) -∗ run d k Q)
        -∗ run d (colK R b C v0 c u k) Q) := by
  unfold holdSt colK
  iintro ⟨Ha, Hb, Hm, Hi, Hs, Hg⟩ Hk
  iapply (wp_ld d R.m u _ _) $$ Hm; iintro Hm
  iapply (wp_st d rfl R.m u _ _ _) $$ Hm; iintro Hm
  iapply (wp_ld d R.ix u _ _) $$ Hi; iintro Hi
  iapply (wp_st d rfl R.ix u _ _ _) $$ Hi; iintro Hi
  iapply (wp_ld d R.s u _ _) $$ Hs; iintro Hs
  iapply (wp_st d rfl R.s u _ _ _) $$ Hs; iintro Hs
  iapply (wp_ld d R.av u _ _) $$ Ha; iintro Ha
  iapply (wp_gath d b C u _ v0 B _) $$ Hb; iintro Hb
  iapply (wp_ld d R.g u _ _) $$ Hg; iintro Hg
  iapply (wp_ld d R.g u _ _) $$ Hg; iintro Hg
  iapply (wp_st d rfl R.g u _ _ _) $$ Hg; iintro Hg
  iapply Hk
  unfold St.mix
  dsimp only
  rw [col_mix, setCol_mix, setCol_mix, setCol_mix, setCol_mix (fun u => upG (col act u) v0 (gat B (col act u) v0 u) (col σ.g u))]
  isplitl [Ha]; · iexact Ha
  isplitl [Hb]; · iexact Hb
  isplitl [Hm]; · iexact Hm
  isplitl [Hi]; · iexact Hi
  isplitl [Hs]; · iexact Hs
  iexact Hg

/-- One block. -/
theorem wp_procK (b : Memref sig .scVector .vmem S200x128 .f32) (C : Chk) (v0 : BitVec 32) (act : Vec F S128 .i32)
    (B : Vec F S200x128 .f32) (σ : St F) (k : PG F i α) :
    iprop(hold d i R.av act ∗ hold d i b B ∗ holdSt d R i σ)
      ⊢ iprop((iprop(hold d i R.av act ∗ hold d i b B ∗ holdSt d R i (blkStep act B v0 σ)) -∗ run d k Q)
        -∗ run d (procK R b C v0 k) Q) := by
  unfold procK
  iintro ⟨Ha, Hb, Hst⟩ Hk
  unfold holdSt
  icases Hst with ⟨Hm, Hi, Hs, Hg⟩
  iapply (wp_ld8 d R.m _ _) $$ Hm; iintro Hm
  iapply (wp_ld8 d R.ix _ _) $$ Hi; iintro Hi
  iapply (wp_ld8 d R.s _ _) $$ Hs; iintro Hs
  iapply (Scf.wp_for_bind frame (wpE (defs₀ (F := F)) 𝒱₀ (thr d i) none) Set.univ _ _ _ k0_t2_ok _ _
    (fun n acc => iprop(⌜acc = pack (rows B v0 σ.carry n)⌝ ∗ hold d i b B)) (fun t acc => by
      iintro ⟨%ha, H⟩
      subst ha
      iapply (wp_rowP d b v0 t _ B) $$ H
      iintro H
      isplitr
      · ipureintro; rw [rows_succ]
      iexact H)) $$ [Hb]
  · isplitr
    · ipureintro; rfl
    iexact Hb
  iintro %acc ⟨%ha, Hb⟩
  subst ha
  rw [unpack_pack]
  iapply (wp_do8 d (colK R b C v0 (rows B v0 σ.carry k0_t2_loop.trips))
    (fun n => iprop(hold d i R.av act ∗ hold d i b B ∗ holdSt d R i (σ.mix n (rows B v0 σ.carry k0_t2_loop.trips)
      fun u => upG (col act u) v0 (gat B (col act u) v0 u) (col σ.g u))))
    (fun u k => wp_colK d R b C v0 _ act B σ u k) k) $$ [Ha Hb Hm Hi Hs Hg]
  · unfold holdSt St.mix
    simp only [mix_zero]
    isplitl [Ha]; · iexact Ha
    isplitl [Hb]; · iexact Hb
    isplitl [Hm]; · iexact Hm
    isplitl [Hi]; · iexact Hi
    isplitl [Hs]; · iexact Hs
    iexact Hg
  iintro H
  iapply Hk
  unfold St.mix holdSt blkStep
  simp only [mix_eight]
  iexact H

end Cert.Proof.Tile

end
-- ==== Proof.Tile.lean ====
/-
  A tile's whole run: the copies, the loop over pairs of blocks, and the four rows it leaves.
-/
module

public import proofs.«01_k».proof.Proof.Wp

@[expose] public section

noncomputable section

namespace Cert.Proof.Tile

open Cert.KernelIdeal Cert.KernelIdeal.Gen
open Idealize.ShloMosaic
open Idealize.ShloMosaic.SparseCore.Cfg (HIx)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## Arithmetic of the block numbers -/

/-- The tile's number. -/
def W (i : grid0.Coords) : ℕ := 2 * (i 1).val + (i 0).val

theorem W_lt (i : grid0.Coords) : W i < 32 := by
  have h0 : (i 0).val < 2 := (i 0).isLt
  have h1 : (i 1).val < 16 := (i 1).isLt
  unfold W; omega

theorem wid_eq (i : grid0.Coords) : wid i = BitVec.ofNat 32 (W i) := by
  apply BitVec.eq_of_toNat_eq
  show ((BitVec.ofNat 32 (i 1).val) * (2#32 : BitVec 32) + BitVec.ofNat 32 (i 0).val).toNat = _
  simp only [BitVec.toNat_add, BitVec.toNat_mul, BitVec.toNat_ofNat]
  unfold W; omega

theorem iv_eq (t : ℕ) : Scf.iv 0#32 1#32 t = BitVec.ofNat 32 t := by
  apply BitVec.eq_of_toNat_eq
  unfold Scf.iv
  simp only [BitVec.toNat_add, BitVec.toNat_mul, BitVec.toNat_ofNat]
  omega

theorem trips1 : k0_t1_loop.trips = 7 := by decide
theorem trips2 : k0_t2_loop.trips = 200 := by decide

theorem lt7 (t : Fin k0_t1_loop.trips) : t.val < 7 := lt_of_lt_of_eq t.isLt trips1

theorem flag (b : Bool) : Scalar.cmpi .ne (Scalar.extui (BitVec.ofBool b) : BitVec 32) (0#32) = 1#1 ↔ b = true := by
  cases b <;> decide

theorem slt_small (n k : ℕ) (hn : n < 1000) (hk : k < 1000) : (BitVec.ofNat 32 n).slt (BitVec.ofNat 32 k) = true ↔ n < k := by
  have h : ∀ a < 1000, (BitVec.ofNat 32 a).toInt = a := by
    intro a ha
    rw [BitVec.toInt_eq_toNat_cond]
    simp only [BitVec.toNat_ofNat]
    split <;> omega
  simp only [BitVec.slt, decide_eq_true_eq, h n hn, h k hk]
  omega

theorem cond1_iff (t : Fin k0_t1_loop.trips) : k0_cond1 t = 1#1 ↔ t.val < 6 := by
  refine (flag _).trans ?_
  rw [iv_eq]
  have := lt7 t
  exact slt_small _ 6 (by omega) (by omega)

theorem cond2_iff (i : grid0.Coords) : k0_cond2 i = 1#1 ↔ W i < 20 := by
  refine (flag _).trans ?_
  show (wid i).slt _ = true ↔ _
  rw [wid_eq]
  have := W_lt i
  exact slt_small _ 20 (by omega) (by omega)

theorem cond3_iff (i : grid0.Coords) : k0_cond3 i = 1#1 ↔ W i < 20 := by
  refine (flag _).trans ?_
  show (wid i).slt _ = true ↔ _
  rw [wid_eq]
  have := W_lt i
  exact slt_small _ 20 (by omega) (by omega)

theorem off1_eq (i : grid0.Coords) : k0_off1 i = ![200 * (32 * 0 + W i), 0] := by
  show ![(wid i * 200#32).toNat, 0] = _
  rw [wid_eq]; have := W_lt i
  congr 1; simp only [BitVec.toNat_mul, BitVec.toNat_ofNat]; omega

theorem off2_eq (i : grid0.Coords) : k0_off2 i = ![200 * (32 * 1 + W i), 0] := by
  show ![((32#32 + wid i) * 200#32).toNat, 0] = _
  rw [wid_eq]; have := W_lt i
  congr 1; simp only [BitVec.toNat_add, BitVec.toNat_mul, BitVec.toNat_ofNat]; omega

theorem off11_eq (i : grid0.Coords) (t : Fin k0_t1_loop.trips) : k0_off11 i t = ![200 * (32 * (2 * t.val + 2) + W i), 0] := by
  show ![((2#32 * Scf.iv 0#32 1#32 t * 32#32 + wid i + 64#32) * 200#32).toNat, 0] = _
  rw [wid_eq, iv_eq]; have := W_lt i; have ht := lt7 t
  congr 1; simp only [BitVec.toNat_add, BitVec.toNat_mul, BitVec.toNat_ofNat]; omega

theorem off20_eq (i : grid0.Coords) (t : Fin k0_t1_loop.trips) : k0_off20 i t = ![200 * (32 * (2 * t.val + 3) + W i), 0] := by
  show ![((2#32 * Scf.iv 0#32 1#32 t * 32#32 + wid i + 96#32) * 200#32).toNat, 0] = _
  rw [wid_eq, iv_eq]; have := W_lt i; have ht := lt7 t
  congr 1; simp only [BitVec.toNat_add, BitVec.toNat_mul, BitVec.toNat_ofNat]; omega

theorem off21_eq (i : grid0.Coords) : k0_off21 i = ![200 * (32 * 15 + W i), 0] := by
  show ![((480#32 + wid i) * 200#32).toNat, 0] = _
  rw [wid_eq]; have := W_lt i
  congr 1; simp only [BitVec.toNat_add, BitVec.toNat_mul, BitVec.toNat_ofNat]; omega

/-- The first row of block `n`, as the kernel's word. -/
def base (n : ℕ) : BitVec 32 := BitVec.ofNat 32 (200 * n)

theorem base0_eq (i : grid0.Coords) (t : Fin k0_t1_loop.trips) :
    Scalar.muli (blk0 i t) (200#32 : BitVec 32) = base (32 * (2 * t.val) + W i) := by
  apply BitVec.eq_of_toNat_eq
  show ((2#32 * Scf.iv 0#32 1#32 t * 32#32 + wid i) * 200#32).toNat = _
  rw [wid_eq, iv_eq]; have := W_lt i; have ht := lt7 t
  unfold base; simp only [BitVec.toNat_add, BitVec.toNat_mul, BitVec.toNat_ofNat]; omega

theorem base1_eq (i : grid0.Coords) (t : Fin k0_t1_loop.trips) :
    Scalar.muli (Scalar.addi (blk0 i t) (32#32 : BitVec 32)) (200#32 : BitVec 32) = base (32 * (2 * t.val + 1) + W i) := by
  apply BitVec.eq_of_toNat_eq
  show ((2#32 * Scf.iv 0#32 1#32 t * 32#32 + wid i + 32#32) * 200#32).toNat = _
  rw [wid_eq, iv_eq]; have := W_lt i; have ht := lt7 t
  unfold base; simp only [BitVec.toNat_add, BitVec.toNat_mul, BitVec.toNat_ofNat]; omega

theorem base2_eq (i : grid0.Coords) :
    Scalar.muli (Scalar.addi (448#32 : BitVec 32) (wid i)) (200#32 : BitVec 32) = base (32 * 14 + W i) := by
  apply BitVec.eq_of_toNat_eq
  show ((448#32 + wid i) * 200#32).toNat = _
  rw [wid_eq]; have := W_lt i
  unfold base; simp only [BitVec.toNat_add, BitVec.toNat_mul, BitVec.toNat_ofNat]; omega

theorem base3_eq (i : grid0.Coords) :
    Scalar.muli (Scalar.addi (480#32 : BitVec 32) (wid i)) (200#32 : BitVec 32) = base (32 * 15 + W i) := by
  apply BitVec.eq_of_toNat_eq
  show ((480#32 + wid i) * 200#32).toNat = _
  rw [wid_eq]; have := W_lt i
  unfold base; simp only [BitVec.toNat_add, BitVec.toNat_mul, BitVec.toNat_ofNat]; omega

/-! ## The tile's value -/

/-- Block `n` of the table (read cyclically, so that it is total). -/
def blkV (X : Vec F S100000x128 .f32) (n : ℕ) : Vec F S200x128 .f32 :=
  fun y => X (fun a => match a with
    | 0 => ⟨(200 * n + (y 0).val) % 100000, Nat.mod_lt _ (by decide)⟩
    | 1 => ⟨(y 1).val, (y 1).isLt⟩)

/-- The tile's state after its first `k` blocks. -/
def stN (act : Vec F S128 .i32) (X : Vec F S100000x128 .f32) (w : ℕ) : ℕ → St F
  | 0 => st0
  | k + 1 => blkStep act (blkV X (32 * k + w)) (base (32 * k + w)) (stN act X w k)

/-- How many blocks a tile takes. -/
def nBlk (w : ℕ) : ℕ := if w < 20 then 16 else 15

/-- The indices as floats, as the tile writes them. -/
def cvt (I : Vec F S128 .i32) : Vec F S128 .f32 := fun j => FloatOps.sitofp .f32 (I j)

/-- The state as the tile writes it. -/
def St.vals (σ : St F) : Fin 4 → Vec F S128 .f32
  | 0 => σ.m | 1 => σ.s | 2 => cvt σ.i | 3 => σ.g

/-- What a tile leaves in row `w` of the four planes. -/
def rowVal (act : Vec F S128 .i32) (X : Vec F S100000x128 .f32) (w : ℕ) : Fin 4 → Vec F S128 .f32 :=
  (stN act X w (nBlk w)).vals

variable (d : Dev nD) {i : grid0.Coords} {α : Type} {Q : α → sProp (MT nD τ sig (HIx 1) (Elt F) ℕ UU ℕ)}
variable (R : Refs)

/-! ## First and last steps -/

theorem wp_initCol (u : Fin 8) (σ : St F) (k : PG F i α) :
    holdSt d R i (σ.mix u.val st0.carry (col st0.g))
      ⊢ iprop((holdSt d R i (σ.mix (u.val + 1) st0.carry (col st0.g)) -∗ run d k Q) -∗ run d (initCol R u k) Q) := by
  unfold holdSt initCol
  iintro ⟨Hm, Hi, Hs, Hg⟩ Hk
  iapply (wp_ld d R.m u _ _) $$ Hm; iintro Hm
  iapply (wp_st d rfl R.m u _ _ _) $$ Hm; iintro Hm
  iapply (wp_ld d R.s u _ _) $$ Hs; iintro Hs
  iapply (wp_st d rfl R.s u _ _ _) $$ Hs; iintro Hs
  iapply (wp_ld d R.g u _ _) $$ Hg; iintro Hg
  iapply (wp_st d rfl R.g u _ _ _) $$ Hg; iintro Hg
  iapply (wp_ld d R.ix u _ _) $$ Hi; iintro Hi
  iapply (wp_st d rfl R.ix u _ _ _) $$ Hi; iintro Hi
  iapply Hk
  unfold St.mix
  dsimp only
  rw [← setCol_mix, ← setCol_mix, ← setCol_mix, ← setCol_mix (col st0.g)]
  isplitl [Hm]; · iexact Hm
  isplitl [Hi]; · iexact Hi
  isplitl [Hs]; · iexact Hs
  iexact Hg

theorem join_col {e : EltTy} (v : Vec F S128 e) : join (col v) = v := by
  funext j
  show v ((colR (colOf j)).emb (inCol j)) = v j
  rw [emb_inCol]

theorem wp_init (k : PG F i α) :
    iprop(held0 d i R.m ∗ held0 d i R.ix ∗ held0 d i R.s ∗ held0 d i R.g)
      ⊢ iprop((holdSt d R i (st0 (F := F)) -∗ run d k Q) -∗ run d (do8 (initCol R) k) Q) := by
  unfold held0
  iintro ⟨⟨%vm, Hm⟩, ⟨%vi, Hi⟩, ⟨%vs, Hs⟩, ⟨%vg, Hg⟩⟩ Hk
  iapply (wp_do8 d (initCol R) (fun n => holdSt d R i ((⟨vm, vi, vs, vg⟩ : St F).mix n st0.carry (col st0.g)))
    (fun u k => wp_initCol d R u _ k) k) $$ [Hm Hi Hs Hg]
  · unfold holdSt St.mix
    simp only [mix_zero]
    isplitl [Hm]; · iexact Hm
    isplitl [Hi]; · iexact Hi
    isplitl [Hs]; · iexact Hs
    iexact Hg
  iintro H
  iapply Hk
  unfold St.mix holdSt St.carry
  simp only [mix_eight, join_col]
  iexact H

theorem wp_cvt (I : Vec F S128 .i32) (k : PG F i α) :
    iprop(hold d i R.ix I ∗ held0 d i R.fx)
      ⊢ iprop((iprop(hold d i R.ix I ∗ hold d i R.fx (cvt I)) -∗ run d k Q) -∗ run d (do8 (cvtCol R) k) Q) := by
  unfold held0
  iintro ⟨Hi, %v, Hf⟩ Hk
  iapply (wp_do8 d (cvtCol R) (fun n => iprop(hold d i R.ix I ∗ hold d i R.fx (mix n (col (cvt I)) v))) (fun u k => by
    unfold cvtCol
    iintro ⟨Hi, Hf⟩ Hk
    iapply (wp_ld d R.ix u _ _) $$ Hi; iintro Hi
    iapply (wp_ld d R.fx u _ _) $$ Hf; iintro Hf
    iapply (wp_st d rfl R.fx u _ _ _) $$ Hf; iintro Hf
    iapply Hk
    rw [← setCol_mix]
    isplitl [Hi]; · iexact Hi
    iexact Hf) k) $$ [Hi Hf]
  · rw [mix_zero]
    isplitl [Hi]; · iexact Hi
    iexact Hf
  rw [mix_eight, join_col]
  iexact Hk

/-! ## Copies -/

variable (O : CellTallies nD τ sig (HIx 1)) (W₀ : Waits sig (HIx 1))

/-- The tile's debts, the waits it may make, and that it recorded none but its own. -/
def Ow (i : grid0.Coords) : sProp 𝕄 :=
  iprop(MayWaits (thr d i) (none : HIx 1) O ∗ ∃ W', ⌜∀ p ∈ W', p ∈ W₀ ∨ p.2 = none⌝ ∗ owes (thr d i) O W')

/-- A semaphore of the tile's at zero. -/
abbrev sem0 (i : grid0.Coords) (q : DmaSems sig S_) : sProp 𝕄 := semVal (thr d i, SemLoc.dma q.sem) 0

theorem wp_wait {sp sp' : Space} {s s' : Shape} {e e' : EltTy} (q : DmaSems sig S_) (src : Memref sig .scVector sp' s' e')
    (dst : Memref sig .scVector sp s e) (hs : src.view.WordExact) (hd : dst.view.WordExact) (D : sProp 𝕄) (k : PG F i α) :
    iprop(Flight countersEmb (thr d i) (.dma q.sem) (none : HIx 1) dst.view.dmaCredit D ∗ Ow d O W₀ i)
      ⊢ iprop((iprop(D ∗ sem0 d i q ∗ Ow d O W₀ i) -∗ run d k Q)
        -∗ run d (.op (.waitDma2 q.sem src dst hs hd) fun _ => k) Q) := by
  unfold Ow
  iintro ⟨Hf, #Hmw, %W', %hW', HO⟩ Hk
  iapply (Transfers.wp_waitLocalO countersEmb 𝒱₀ (thr d i) none (none : HIx 1) (dstw := dst) (srcw := src) rfl) $$ [Hf HO]
  · isplitl [Hf]; · iexact Hf
    isplitl [HO]; · iexact HO
    iapply (MayWaits.elim (SemLoc.dma q.sem)) $$ Hmw
  iintro ⟨HD, Hv, HO⟩
  iapply Hk
  isplitl [HD]; · iexact HD
  isplitl [Hv]; · iexact Hv
  isplitr; · iexact Hmw
  iexists (insert (SemLoc.dma q.sem, (none : HIx 1)) W')
  isplitr
  · ipureintro
    intro p hp
    rcases Finset.mem_insert.mp hp with hp | hp
    · exact .inr (hp ▸ rfl)
    · exact hW' p hp
  iexact HO

/-- A copy put in flight: at its wait the destination reads what the source read. -/
theorem wp_enq {sp sp' : Space} {s : Shape} {e : EltTy} (q : DmaSems sig S_) (src : Memref sig .scVector sp' s e)
    (dst : Memref sig .scVector sp s e) (hs : src.view.WordExact) (hd : dst.view.WordExact) (ht : DmaTarget.Typed (nD := nD) sp' (.dma q.sem) (.here (p := (thr d i).2) dst))
    (hn : 0 < s.numel) (qs : PosShare TreeShare) (f : Buf (Elt F) (src.view.loc (thr d i))) (k : PG F i α) :
    iprop((src.view.loc (thr d i) ↦[src.view.set]{qs} f) ∗ held0 d i dst ∗ sem0 d i q)
      ⊢ iprop((Flight countersEmb (thr d i) (.dma q.sem) (none : HIx 1) dst.view.dmaCredit
          iprop(hold d i dst (src.view.read (Elt F) f) ∗ (src.view.loc (thr d i) ↦[src.view.set]{qs} f)) -∗ run d k Q)
        -∗ run d (.op (.enqueueDma src (.here dst) (.dma q.sem) hs hd ht) fun _ => k) Q) := by
  unfold held0 hold
  iintro ⟨Hs, ⟨%v, %fd, -, Hd⟩, Hv⟩ Hk
  iapply (Transfers.wp_dmaLocal countersEmb 𝒱₀ (thr d i) none (src := src) (dst := dst) (via := .same) (none : HIx 1) dst.view.dmaCredit
    rfl (View.dmaCredit_pos _ hn) (Finset.Subset.refl _)) $$ [Hs Hd Hv]
  · isplitl [Hs]; · iexact Hs
    isplitl [Hd]; · iexact Hd
    iexact Hv
  iintro Hf
  iapply Hk
  iapply (Transfers.Flight_mono countersEmb (thr d i) (by
    iintro ⟨Hd, Hs⟩
    isplitl [Hd]
    · iexists (dst.view.write (Elt F) fd (src.view.read (Elt F) f) Finset.univ)
      isplitr
      · ipureintro; exact View.read_write_univ _ _
      iexact Hd
    iexact Hs)) $$ Hf

/-- A copy and its wait at once. -/
theorem wp_copy {sp sp' : Space} {s : Shape} {e : EltTy} (q : DmaSems sig S_) (src : Memref sig .scVector sp' s e)
    (dst : Memref sig .scVector sp s e) (hs : src.view.WordExact) (hd : dst.view.WordExact) (ht : DmaTarget.Typed (nD := nD) sp' (.dma q.sem) (.here (p := (thr d i).2) dst))
    (hn : 0 < s.numel) (qs : PosShare TreeShare) (f : Buf (Elt F) (src.view.loc (thr d i))) (k : PG F i α) :
    iprop((src.view.loc (thr d i) ↦[src.view.set]{qs} f) ∗ held0 d i dst ∗ sem0 d i q ∗ Ow d O W₀ i)
      ⊢ iprop((iprop((src.view.loc (thr d i) ↦[src.view.set]{qs} f) ∗ hold d i dst (src.view.read (Elt F) f) ∗ sem0 d i q ∗ Ow d O W₀ i) -∗ run d k Q)
        -∗ run d (.op (.enqueueDma src (.here dst) (.dma q.sem) hs hd ht) fun _ => .op (.waitDma2 q.sem src dst hs hd) fun _ => k) Q) := by
  iintro ⟨Hs, Hd, Hv, HO⟩ Hk
  iapply (wp_enq d q src dst hs hd ht hn qs f _) $$ [Hs Hd Hv]
  · isplitl [Hs]; · iexact Hs
    isplitl [Hd]; · iexact Hd
    iexact Hv
  iintro Hf
  iapply (wp_wait d O W₀ q src dst hs hd _ _) $$ [Hf HO]
  · isplitl [Hf]; · iexact Hf
    iexact HO
  iintro ⟨⟨Hd, Hs⟩, Hv, HO⟩
  iapply Hk
  isplitl [Hs]; · iexact Hs
  isplitl [Hd]; · iexact Hd
  isplitl [Hv]; · iexact Hv
  iexact HO

theorem wp_putRow (b : Memref sig .scVector .vmem S128 .f32) (hb : b.IsWhole) (off : Fin 3 → Nat)
    (h : ∀ a, off a + S1x1x128.size a ≤ S4x32x128.size a) (q : DmaSems sig S_) (v : Vec F S128 .f32) (k : PG F i α) :
    iprop(hold d i b v ∗ held0 d i (poRow R off h) ∗ sem0 d i q ∗ Ow d O W₀ i)
      ⊢ iprop((iprop(hold d i b v ∗ hold d i (poRow R off h) v ∗ sem0 d i q ∗ Ow d O W₀ i) -∗ run d k Q)
        -∗ run d (putRow R b hb off h q k) Q) := by
  unfold putRow
  iintro ⟨Hb, Hd, Hv, HO⟩ Hk
  unfold hold
  icases Hb with ⟨%f, %hf, Hb⟩
  iapply (wp_copy d O W₀ q b (poRow R off h) _ _ _ (by decide) fullShare f k) $$ [Hb Hd Hv HO]
  · isplitl [Hb]; · iexact Hb
    isplitl [Hd]; · iexact Hd
    isplitl [Hv]; · iexact Hv
    iexact HO
  iintro ⟨Hb, Hd, Hv, HO⟩
  iapply Hk
  rw [hf]
  isplitl [Hb]
  · iexists f
    isplitr; · ipureintro; exact hf
    iexact Hb
  isplitl [Hd]; · unfold hold; iexact Hd
  isplitl [Hv]; · iexact Hv
  iexact HO

/-! ## The table's blocks in flight -/

variable (fx : Buf (Elt F) (R.x.view.loc (thr d i)))

/-- The table, at a share. -/
abbrev xAt (i : grid0.Coords) (fx : Buf (Elt F) (R.x.view.loc (thr d i))) (qx : PosShare TreeShare) : sProp 𝕄 :=
  R.x.view.loc (thr d i) ↦[R.x.view.set]{qx} fx

/-- Block `n` on its way into `b`, and what the tile still holds of the table. -/
def fly (i : grid0.Coords) (fx : Buf (Elt F) (R.x.view.loc (thr d i))) (b : Memref sig .scVector .vmem S200x128 .f32) (q : DmaSems sig S_)
    (qx : PosShare TreeShare) (n : ℕ) : sProp 𝕄 :=
  iprop(∃ I, ⌜I ⊆ R.x.view.set⌝
    ∗ Flight countersEmb (thr d i) (.dma q.sem) (none : HIx 1) b.view.dmaCredit
        iprop(hold d i b (blkV (R.x.view.read (Elt F) fx) n) ∗ (R.x.view.loc (thr d i) ↦[I]{qx} fx))
    ∗ (R.x.view.loc (thr d i) ↦[R.x.view.set \ I]{qx} fx))

/-- A buffer nothing is on its way into. -/
def idle (i : grid0.Coords) (fx : Buf (Elt F) (R.x.view.loc (thr d i))) (b : Memref sig .scVector .vmem S200x128 .f32) (q : DmaSems sig S_)
    (qx : PosShare TreeShare) : sProp 𝕄 :=
  iprop(held0 d i b ∗ sem0 d i q ∗ xAt d R i fx qx)

theorem read_xBlk (off : Fin 2 → Nat) (h : ∀ a, off a + S200x128.size a ≤ S100000x128.size a) (n : ℕ) (hoff : off = ![200 * n, 0]) (hn : n < 500) :
    (xBlk R off h).view.read (Elt F) fx = blkV (R.x.view.read (Elt F) fx) n := by
  subst hoff
  funext y
  show R.x.view.read (Elt F) fx ((Rect.unit (s := S100000x128) ![200 * n, 0] S200x128.size h).emb y) = _
  unfold blkV
  congr 1
  funext a
  have h0 : (y 0).val < 200 := (y 0).isLt
  match a with
  | 0 =>
    apply Fin.ext
    show 200 * n + 1 * (y 0).val = (200 * n + (y 0).val) % 100000
    rw [Nat.mod_eq_of_lt (by omega)]; omega
  | 1 =>
    apply Fin.ext
    show 0 + 1 * (y 1).val = (y 1).val
    omega

theorem wp_issue (off : Fin 2 → Nat) (h : ∀ a, off a + S200x128.size a ≤ S100000x128.size a) (b : Memref sig .scVector .vmem S200x128 .f32)
    (hb : b.IsWhole) (q : DmaSems sig S_) (qx : PosShare TreeShare) (n : ℕ) (hoff : off = ![200 * n, 0]) (hn : n < 500) (k : PG F i α) :
    idle d R i fx b q qx ⊢ iprop((fly d R i fx b q qx n -∗ run d k Q) -∗ run d (issue R off h b hb q k) Q) := by
  unfold idle issue fly
  iintro ⟨Hb, Hv, Hx⟩ Hk
  ihave Hx' := (pointsTo_split_subset (View.set_slice_subset (v := R.x.view) (Rect.unit (s := S100000x128) off S200x128.size h))).1 $$ Hx
  icases Hx' with ⟨Hx, Hr⟩
  iapply (wp_enq d q (xBlk R off h) b _ _ _ (by decide) qx fx k) $$ [Hb Hx Hv]
  · isplitl [Hx]; · iexact Hx
    isplitl [Hb]; · iexact Hb
    iexact Hv
  rw [read_xBlk d R fx off h n hoff hn]
  iintro Hf
  iapply Hk
  iexists (xBlk R off h).view.set
  isplitr; · ipureintro; exact View.set_slice_subset _ _
  isplitl [Hf]; · iexact Hf
  iexact Hr

theorem wp_await (b : Memref sig .scVector .vmem S200x128 .f32) (hb : b.IsWhole) (q : DmaSems sig S_) (qx : PosShare TreeShare) (n : ℕ) (k : PG F i α) :
    iprop(fly d R i fx b q qx n ∗ Ow d O W₀ i)
      ⊢ iprop((iprop(hold d i b (blkV (R.x.view.read (Elt F) fx) n) ∗ sem0 d i q ∗ xAt d R i fx qx ∗ Ow d O W₀ i) -∗ run d k Q)
        -∗ run d (await R b hb q k) Q) := by
  unfold await fly
  iintro ⟨⟨%I, %hI, Hf, Hr⟩, HO⟩ Hk
  iapply (wp_wait d O W₀ q _ b _ _ _ _) $$ [Hf HO]
  · isplitl [Hf]; · iexact Hf
    iexact HO
  iintro ⟨⟨Hb, Hx⟩, Hv, HO⟩
  iapply Hk
  isplitl [Hb]; · iexact Hb
  isplitl [Hv]; · iexact Hv
  isplitr [HO]
  · iapply (pointsTo_split_subset hI).2
    isplitl [Hx]; · iexact Hx
    iexact Hr
  iexact HO

/-! ## The loop -/

variable (act : Vec F S128 .i32)

/-- What the tile holds between steps, its first `k` blocks done. -/
def core (i : grid0.Coords) (fx : Buf (Elt F) (R.x.view.loc (thr d i))) (k : ℕ) : sProp 𝕄 :=
  iprop(hold d i R.av act ∗ holdSt d R i (stN act (R.x.view.read (Elt F) fx) (W i) k) ∗ Ow d O W₀ i)

variable (qa qb : PosShare TreeShare)

/-- Buffer 1 after `n` trips: the next block is on its way while there is one. -/
def buf1 (i : grid0.Coords) (fx : Buf (Elt F) (R.x.view.loc (thr d i))) (c : Prop) [Decidable c] (n : ℕ) : sProp 𝕄 :=
  if c then fly d R i fx R.b1 R.q1 qb n else idle d R i fx R.b1 R.q1 qb

/-- A block is taken: its buffer awaited, its rows and gather done. -/
theorem wp_block (b : Memref sig .scVector .vmem S200x128 .f32) (hb : b.IsWhole) (q : DmaSems sig S_) (qx : PosShare TreeShare) (n : ℕ)
    (C : Chk) (v0 : BitVec 32) (hv : v0 = base (32 * n + W i)) (k : PG F i α) :
    iprop(core d R O W₀ act i fx n ∗ fly d R i fx b q qx (32 * n + W i))
      ⊢ iprop((iprop(core d R O W₀ act i fx (n + 1) ∗ idle d R i fx b q qx) -∗ run d k Q)
        -∗ run d (await R b hb q (procK R b C v0 k)) Q) := by
  subst hv
  unfold core idle
  iintro ⟨⟨Ha, Hst, HO⟩, Hf⟩ Hk
  iapply (wp_await d R O W₀ fx b hb q qx _ _) $$ [Hf HO]
  · isplitl [Hf]; · iexact Hf
    iexact HO
  iintro ⟨Hb, Hv, Hx, HO⟩
  iapply (wp_procK d R b C _ act _ _ _) $$ [Ha Hb Hst]
  · isplitl [Ha]; · iexact Ha
    isplitl [Hb]; · iexact Hb
    iexact Hst
  iintro ⟨Ha, Hb, Hst⟩
  iapply Hk
  isplitl [Ha Hst HO]
  · isplitl [Ha]; · iexact Ha
    isplitl [Hst]; · iexact Hst
    iexact HO
  isplitl [Hb]; · iapply (hold_any d b _); iexact Hb
  isplitl [Hv]; · iexact Hv
  iexact Hx

/-- The main loop's invariant. -/
def inv (i : grid0.Coords) (fx : Buf (Elt F) (R.x.view.loc (thr d i))) (n : ℕ) : sProp 𝕄 :=
  iprop(core d R O W₀ act i fx (2 * n) ∗ fly d R i fx R.b0 R.q0 qa (32 * (2 * n) + W i)
    ∗ buf1 d R qb i fx (n < 7) (32 * (2 * n + 1) + W i))

theorem wp_trip (t : Fin k0_t1_loop.trips) :
    inv d R O W₀ act qa qb i fx t.val ⊢ run d (i := i) (tripP R t) fun _ => inv d R O W₀ act qa qb i fx (t.val + 1) := by
  have ht := lt7 t
  have hW := W_lt i
  unfold inv buf1 tripP
  rw [if_pos ht]
  iintro ⟨Hc, H0, H1⟩
  iapply (wp_block d R O W₀ fx act R.b0 R.hb0 R.q0 qa _ _ _ (base0_eq i t) _) $$ [Hc H0]
  · isplitl [Hc]; · iexact Hc
    iexact H0
  iintro ⟨Hc, H0⟩
  iapply (wp_issue d R fx _ _ R.b0 R.hb0 R.q0 qa _ (off11_eq i t) (by omega) _) $$ H0
  iintro H0
  iapply (wp_block d R O W₀ fx act R.b1 R.hb1 R.q1 qb _ _ _ (base1_eq i t) _) $$ [Hc H1]
  · isplitl [Hc]; · iexact Hc
    iexact H1
  iintro ⟨Hc, H1⟩
  rw [show 2 * (t.val + 1) = 2 * t.val + 1 + 1 by omega]
  by_cases h : k0_cond1 t = 1#1
  · have h6 := (cond1_iff t).mp h
    rw [dif_pos h]
    iapply (wp_issue d R fx _ _ R.b1 R.hb1 R.q1 qb _ (off20_eq i t) (by omega) _) $$ H1
    iintro H1
    unfold run
    rw [wp_ret, if_pos (by omega)]
    imodintro
    isplitl [Hc]; · iexact Hc
    isplitl [H0]; · iexact H0
    iexact H1
  · rw [dif_neg h]
    have h6 : ¬ t.val < 6 := fun h' => h ((cond1_iff t).mpr h')
    unfold run
    rw [wp_ret, if_neg (by omega)]
    imodintro
    isplitl [Hc]; · iexact Hc
    isplitl [H0]; · iexact H0
    iexact H1

/-! ## The run -/

/-- The tile's four rows of the result. -/
def rows4 (i : grid0.Coords) (p : ∀ (off : Fin 3 → Nat) (h : ∀ a, off a + S1x1x128.size a ≤ S4x32x128.size a), Fin 4 → sProp 𝕄) : sProp 𝕄 :=
  iprop(p (k0_off38 i) (k0_off38_inb i) 0 ∗ p (k0_off39 i) (k0_off39_inb i) 1 ∗ p (k0_off40 i) (k0_off40_inb i) 2 ∗ p (k0_off41 i) (k0_off41_inb i) 3)

theorem wp_finish (σ : St F) {Q : PUnit → sProp 𝕄} :
    iprop(holdSt d R i σ ∗ held0 d i R.fx ∗ rows4 i (fun off h _ => held0 d i (poRow R off h))
        ∗ sem0 d i R.r1 ∗ sem0 d i R.r2 ∗ sem0 d i R.r3 ∗ sem0 d i R.r4 ∗ Ow d O W₀ i)
      ⊢ iprop((iprop(holdSt d R i σ ∗ held0 d i R.fx
            ∗ rows4 i (fun off h k => hold d i (poRow R off h) (σ.vals k))
            ∗ sem0 d i R.r1 ∗ sem0 d i R.r2 ∗ sem0 d i R.r3 ∗ sem0 d i R.r4 ∗ Ow d O W₀ i) -∗ Q ⟨⟩)
        -∗ run d (i := i) (finish R) Q) := by
  unfold finish holdSt rows4
  iintro ⟨⟨Hm, Hi, Hs, Hg⟩, Hf, ⟨P0, P1, P2, P3⟩, S1, S2, S3, S4, HO⟩ Hk
  iapply (wp_cvt d R σ.i _) $$ [Hi Hf]
  · isplitl [Hi]; · iexact Hi
    iexact Hf
  iintro ⟨Hi, Hf⟩
  iapply (wp_putRow d R O W₀ R.m R.hm _ _ R.r1 _ _) $$ [Hm P0 S1 HO]
  · isplitl [Hm]; · iexact Hm
    isplitl [P0]; · iexact P0
    isplitl [S1]; · iexact S1
    iexact HO
  iintro ⟨Hm, P0, S1, HO⟩
  iapply (wp_putRow d R O W₀ R.s R.hs _ _ R.r2 _ _) $$ [Hs P1 S2 HO]
  · isplitl [Hs]; · iexact Hs
    isplitl [P1]; · iexact P1
    isplitl [S2]; · iexact S2
    iexact HO
  iintro ⟨Hs, P1, S2, HO⟩
  iapply (wp_putRow d R O W₀ R.fx R.hfx _ _ R.r3 _ _) $$ [Hf P2 S3 HO]
  · isplitl [Hf]; · iexact Hf
    isplitl [P2]; · iexact P2
    isplitl [S3]; · iexact S3
    iexact HO
  iintro ⟨Hf, P2, S3, HO⟩
  iapply (wp_putRow d R O W₀ R.g R.hg _ _ R.r4 _ _) $$ [Hg P3 S4 HO]
  · isplitl [Hg]; · iexact Hg
    isplitl [P3]; · iexact P3
    isplitl [S4]; · iexact S4
    iexact HO
  iintro ⟨Hg, P3, S4, HO⟩
  unfold run
  rw [wp_ret]
  imodintro
  iapply Hk
  isplitl [Hm Hi Hs Hg]
  · isplitl [Hm]; · iexact Hm
    isplitl [Hi]; · iexact Hi
    isplitl [Hs]; · iexact Hs
    iexact Hg
  isplitl [Hf]; · iapply (hold_any d R.fx _); iexact Hf
  isplitl [P0 P1 P2 P3]
  · isplitl [P0]; · iexact P0
    isplitl [P1]; · iexact P1
    isplitl [P2]; · iexact P2
    iexact P3
  isplitl [S1]; · iexact S1
  isplitl [S2]; · iexact S2
  isplitl [S3]; · iexact S3
  isplitl [S4]; · iexact S4
  iexact HO

theorem wp_refill (k : PG F i α) :
    buf1 d R qb i fx (7 < 7) (32 * (2 * 7 + 1) + W i)
      ⊢ iprop((buf1 d R qb i fx (W i < 20) (32 * 15 + W i) -∗ run d k Q) -∗ run d (refill R k) Q) := by
  have hW := W_lt i
  unfold buf1 refill
  rw [if_neg (by omega)]
  iintro H Hk
  by_cases h : k0_cond2 i = 1#1
  · have h' := (cond2_iff i).mp h
    rw [if_pos h', dif_pos h]
    iapply (wp_issue d R fx _ _ R.b1 R.hb1 R.q1 qb _ (off21_eq i) (by omega) _) $$ H
    iexact Hk
  · rw [if_neg (fun h' => h ((cond2_iff i).mpr h')), dif_neg h]
    iapply Hk $$ H

theorem wp_extra (k : PG F i α) :
    iprop(core d R O W₀ act i fx 15 ∗ buf1 d R qb i fx (W i < 20) (32 * 15 + W i))
      ⊢ iprop((iprop(core d R O W₀ act i fx (nBlk (W i)) ∗ idle d R i fx R.b1 R.q1 qb) -∗ run d k Q) -∗ run d (extra R k) Q) := by
  unfold buf1 extra nBlk
  by_cases h : k0_cond3 i = 1#1
  · have h' := (cond3_iff i).mp h
    rw [if_pos h', if_pos h', dif_pos h]
    iintro ⟨Hc, H⟩ Hk
    iapply (wp_block d R O W₀ fx act R.b1 R.hb1 R.q1 qb _ _ _ (base3_eq i) _) $$ [Hc H]
    · isplitl [Hc]; · iexact Hc
      iexact H
    iexact Hk
  · have h' : ¬ W i < 20 := fun h' => h ((cond3_iff i).mpr h')
    rw [if_neg h', if_neg h', dif_neg h]
    iintro ⟨Hc, H⟩ Hk
    iapply Hk
    isplitl [Hc]; · iexact Hc
    iexact H

/-- What a tile has beside its inputs, before and after. -/
def rest (i : grid0.Coords) : sProp 𝕄 :=
  iprop((held0 d i R.b0 ∗ held0 d i R.b1 ∗ held0 d i R.av ∗ held0 d i R.m ∗ held0 d i R.s ∗ held0 d i R.g ∗ held0 d i R.ix ∗ held0 d i R.fx)
    ∗ sem0 d i R.q0 ∗ sem0 d i R.q1 ∗ sem0 d i R.r0 ∗ sem0 d i R.r1 ∗ sem0 d i R.r2 ∗ sem0 d i R.r3 ∗ sem0 d i R.r4)

/-- The tile's run: the table and the selected indices at shares, its rows of the result filled with its state. -/
theorem wp_body (qc : PosShare TreeShare) (fa : Buf (Elt F) (R.act.view.loc (thr d i))) :
    iprop(xAt d R i fx qa ∗ xAt d R i fx qb ∗ (R.act.view.loc (thr d i) ↦[R.act.view.set]{qc} fa)
        ∗ rows4 i (fun off h _ => held0 d i (poRow R off h)) ∗ rest d R i ∗ Ow d O W₀ i)
      ⊢ run d (i := i) (body R) fun _ => iprop(xAt d R i fx qa ∗ xAt d R i fx qb ∗ (R.act.view.loc (thr d i) ↦[R.act.view.set]{qc} fa)
        ∗ rows4 i (fun off h k => hold d i (poRow R off h) (rowVal (R.act.view.read (Elt F) fa) (R.x.view.read (Elt F) fx) (W i) k))
        ∗ rest d R i ∗ Ow d O W₀ i) := by
  have hW := W_lt i
  unfold body rest
  iintro ⟨Xa, Xb, Ha, Hp, ⟨⟨B0, B1, Hav, Hm, Hs, Hg, Hi, Hf⟩, Q0, Q1, R0, R1, R2, R3, R4⟩, HO⟩
  unfold fetchAct
  iapply (wp_copy d O W₀ R.r0 R.act R.av _ _ _ (by decide) qc fa _) $$ [Ha Hav R0 HO]
  · isplitl [Ha]; · iexact Ha
    isplitl [Hav]; · iexact Hav
    isplitl [R0]; · iexact R0
    iexact HO
  iintro ⟨Ha, Hav, R0, HO⟩
  iapply (wp_init d R _) $$ [Hm Hi Hs Hg]
  · isplitl [Hm]; · iexact Hm
    isplitl [Hi]; · iexact Hi
    isplitl [Hs]; · iexact Hs
    iexact Hg
  iintro Hst
  iapply (wp_issue d R fx _ _ R.b0 R.hb0 R.q0 qa _ (off1_eq i) (by omega) _) $$ [B0 Q0 Xa]
  · unfold idle
    isplitl [B0]; · iexact B0
    isplitl [Q0]; · iexact Q0
    iexact Xa
  iintro H0
  iapply (wp_issue d R fx _ _ R.b1 R.hb1 R.q1 qb _ (off2_eq i) (by omega) _) $$ [B1 Q1 Xb]
  · unfold idle
    isplitl [B1]; · iexact B1
    isplitl [Q1]; · iexact Q1
    iexact Xb
  iintro H1
  iapply (Scf.wp_for_bind frame (wpE (defs₀ (F := F)) 𝒱₀ (thr d i) none) Set.univ _ _ _ k0_t1_ok _ _
    (fun n _ => inv d R O W₀ (R.act.view.read (Elt F) fa) qa qb i fx n) (fun t _ => wp_trip d R O W₀ fx _ qa qb t)) $$ [Hav Hst HO H0 H1]
  · unfold inv core buf1
    rw [if_pos (by omega)]
    isplitl [Hav Hst HO]
    · isplitl [Hav]; · iexact Hav
      isplitl [Hst]; · iexact Hst
      iexact HO
    isplitl [H0]; · iexact H0
    iexact H1
  iintro %_ HI
  rw [show Scf.trips _ _ _ = 7 from trips1]
  unfold inv
  icases HI with ⟨Hc, H0, H1⟩
  iapply (wp_refill d R fx qb _) $$ H1
  iintro H1
  iapply (wp_block d R O W₀ fx _ R.b0 R.hb0 R.q0 qa _ _ _ (base2_eq i) _) $$ [Hc H0]
  · isplitl [Hc]; · iexact Hc
    iexact H0
  iintro ⟨Hc, H0⟩
  iapply (wp_extra d R O W₀ fx _ qb _) $$ [Hc H1]
  · isplitl [Hc]; · iexact Hc
    iexact H1
  iintro ⟨Hc, H1⟩
  unfold core
  icases Hc with ⟨Hav, Hst, HO⟩
  iapply (wp_finish d R O W₀ _) $$ [Hst Hf Hp R1 R2 R3 R4 HO]
  · isplitl [Hst]; · iexact Hst
    isplitl [Hf]; · iexact Hf
    isplitl [Hp]; · iexact Hp
    isplitl [R1]; · iexact R1
    isplitl [R2]; · iexact R2
    isplitl [R3]; · iexact R3
    isplitl [R4]; · iexact R4
    iexact HO
  iintro ⟨Hst, Hf, Hp, R1, R2, R3, R4, HO⟩
  unfold idle holdSt
  icases H0 with ⟨B0, Q0, Xa⟩
  icases H1 with ⟨B1, Q1, Xb⟩
  icases Hst with ⟨Hm, Hi, Hs, Hg⟩
  isplitl [Xa]; · iexact Xa
  isplitl [Xb]; · iexact Xb
  isplitl [Ha]; · iexact Ha
  isplitl [Hp]; · unfold rows4; iexact Hp
  isplitr [HO]
  · isplitl [B0 B1 Hav Hm Hs Hg Hi Hf]
    · isplitl [B0]; · iexact B0
      isplitl [B1]; · iexact B1
      isplitl [Hav]; · iapply (hold_any d _ _); iexact Hav
      isplitl [Hm]; · iapply (hold_any d _ _); iexact Hm
      isplitl [Hs]; · iapply (hold_any d _ _); iexact Hs
      isplitl [Hg]; · iapply (hold_any d _ _); iexact Hg
      isplitl [Hi]; · iapply (hold_any d _ _); iexact Hi
      iexact Hf
    isplitl [Q0]; · iexact Q0
    isplitl [Q1]; · iexact Q1
    isplitl [R0]; · iexact R0
    isplitl [R1]; · iexact R1
    isplitl [R2]; · iexact R2
    isplitl [R3]; · iexact R3
    iexact R4
  iexact HO

end Cert.Proof.Tile

end
-- ==== Proof.Finish.lean ====
/-
  The finishing call on the TensorCore: from the tiles' partial results in `main_v2`, the log-probabilities in `main_v3_0` and the
  modes in `main_v3_1`, with their values (`finLp`, `finMd`); its region of @main (`finReg`).
-/
module

public import proofs.«01_k».proof.Proof.Tile
public import proofs.«01_k».proof.Proof.Gen.KernelIdeal.Launch
public import proofs.«01_k».proof.Proof.Gen.KernelIdeal.Points
public import Idealize.ShloMosaic.Lib.Pipeline.ValueKit

@[expose] public section

noncomputable section

namespace Cert.Proof.Tile

open Cert.KernelIdeal Cert.KernelIdeal.Gen
open Idealize.ShloMosaic Idealize.ShloMosaic.TcCoe
open Idealize.ShloMosaic.SparseCore.Cfg (HIx)
open Idealize.ShloMosaic.Pipeline (Dat)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The values -/

/-- One plane of the partial results: maxima, sums, indices or picked logits, a row per tile. -/
def plane (X : Vec F S4x32x128 .f32) (off : Fin 3 → Nat) (h : ∀ a, off a + S1x32x128.size a ≤ S4x32x128.size a) : FVec F S32x128 .f32 :=
  shapeCast S32x128 (fun y => X ((Rect.unit (s := S4x32x128) off S1x32x128.size h).emb y)) shapeCasts_S1x32x128_S32x128

def finMax (X : Vec F S4x32x128 .f32) : FVec F S1x128 .f32 :=
  shapeCast S1x128 (multiReduction .maximumf [0] S128 (plane X _ inb_S4x32x128_S1x32x128_0_0_0) 0xFF800000#32 reduces_S32x128_S128 (.inl rfl) rfl) shapeCasts_S128_S1x128

def finSum (P : FVec F S32x128 .f32) : FVec F S1x128 .f32 :=
  shapeCast S1x128 (multiReduction .add [0] S128 P 0x00000000#32 reduces_S32x128_S128 (.inl rfl) rfl) shapeCasts_S128_S1x128

/-- The least index among the tiles that hold the maximum. -/
def finIx (X : Vec F S4x32x128 .f32) : FVec F S1x128 .f32 :=
  shapeCast S1x128 (multiReduction .minimumf [0] S128
    (select (cmpf .oeq (plane X _ inb_S4x32x128_S1x32x128_0_0_0) (broadcastTo S32x128 (finMax X) broadcasts_S1x128_S32x128))
      (plane X _ inb_S4x32x128_S1x32x128_2_0_0) (broadcast S32x128 (Scalar.ofBits .f32 0x47C35000#32)))
    0x7F800000#32 reduces_S32x128_S128 (.inl rfl) rfl) shapeCasts_S128_S1x128

def finLp (X : Vec F S4x32x128 .f32) : FVec F S1x128 .f32 :=
  subf (finSum (plane X _ inb_S4x32x128_S1x32x128_3_0_0)) (log (finSum (plane X _ inb_S4x32x128_S1x32x128_1_0_0)))

def finMd (X : Vec F S4x32x128 .f32) : IVec S1x128 32 := fptosi 32 (finIx X)

/-! ## The body -/

section Body

variable (c : Dev nD)

/-- A buffer written over on all of itself reads what was written. -/
theorem read_all {e : EltTy} (b : Memref sig .tc .vmem S1x128 e) (f : b.view.ty.Contents (Elt F)) (w : Vec F S1x128 e) :
    b.view.read (Elt F) ((b.access (Rect.unit (s := S1x128) ![0, 0] S1x128.size inb_S1x128_S1x128_0_0)).write (Elt F) f w Finset.univ) = w := by
  funext j
  have hj : (Rect.unit (s := S1x128) ![0, 0] S1x128.size inb_S1x128_S1x128_0_0).emb j = j := by
    funext a; apply Fin.ext; rw [Rect.emb_apply]; fin_cases a <;> simp
  conv_lhs => rw [← hj]
  exact View.read_slice_write_emb (v := b.view) (Val := Elt F) (Rect.unit (s := S1x128) ![0, 0] S1x128.size inb_S1x128_S1x128_0_0) f w (Finset.mem_univ _)

/-- The finishing body, from the partial results `X`. -/
theorem wp_fin (M0 : Memref sig .tc .vmem S4x32x128 .f32) (h0 : M0.IsWhole) (M1 : Memref sig .tc .vmem S1x128 .f32) (h1 : M1.IsWhole)
    (M2 : Memref sig .tc .vmem S1x128 .i32) (h2 : M2.IsWhole) (X : Vec F S4x32x128 .f32) (Y1 : Vec F S1x128 .f32) (Y2 : Vec F S1x128 .i32)
    (Q : PUnit → sProp 𝕄) :
    iprop(owns c M0 fullShare X ∗ owns c M1 fullShare Y1 ∗ owns c M2 fullShare Y2
        ∗ (iprop(owns c M0 fullShare X ∗ owns c M1 fullShare (finLp X) ∗ owns c M2 fullShare (finMd X)) -∗ Q ⟨⟩))
      ⊢ wp frame (wpE (defs₀ (F := F)) 𝒱₀ c none) Set.univ (cc1__finish_body M0 h0 M1 h1 M2 h2) Q := by
  unfold cc1__finish_body owns
  simp only [Prog.lift, Bind.bind, Prog.bind, Pure.pure]
  iintro ⟨⟨%f0, %hf0, H0⟩, ⟨%f1, %hf1, H1⟩, ⟨%f2, %hf2, H2⟩, Hk⟩
  iapply (wp_load_rect 𝒱₀ (c : Thread nD τ) none Set.univ (m := M0) (r := Rect.unit (s := S4x32x128) ![0, 0, 0] S1x32x128.size inb_S4x32x128_S1x32x128_0_0_0) (View.set_slice_subset _ _)) $$ H0; iintro H0
  iapply (wp_load_rect 𝒱₀ (c : Thread nD τ) none Set.univ (m := M0) (r := Rect.unit (s := S4x32x128) ![1, 0, 0] S1x32x128.size inb_S4x32x128_S1x32x128_1_0_0) (View.set_slice_subset _ _)) $$ H0; iintro H0
  iapply (wp_load_rect 𝒱₀ (c : Thread nD τ) none Set.univ (m := M0) (r := Rect.unit (s := S4x32x128) ![2, 0, 0] S1x32x128.size inb_S4x32x128_S1x32x128_2_0_0) (View.set_slice_subset _ _)) $$ H0; iintro H0
  iapply (wp_load_rect 𝒱₀ (c : Thread nD τ) none Set.univ (m := M0) (r := Rect.unit (s := S4x32x128) ![3, 0, 0] S1x32x128.size inb_S4x32x128_S1x32x128_3_0_0) (View.set_slice_subset _ _)) $$ H0; iintro H0
  iapply (wp_load_rect 𝒱₀ (c : Thread nD τ) none Set.univ (m := M1) (r := Rect.unit (s := S1x128) ![0, 0] S1x128.size inb_S1x128_S1x128_0_0) (View.set_slice_subset _ _)) $$ H1; iintro H1
  iapply (wp_store 𝒱₀ (c : Thread nD τ) none Set.univ (m := M1) (r := Rect.unit (s := S1x128) ![0, 0] S1x128.size inb_S1x128_S1x128_0_0) (View.set_slice_subset _ _)) $$ H1; iintro H1
  iapply (wp_load_rect 𝒱₀ (c : Thread nD τ) none Set.univ (m := M2) (r := Rect.unit (s := S1x128) ![0, 0] S1x128.size inb_S1x128_S1x128_0_0) (View.set_slice_subset _ _)) $$ H2; iintro H2
  iapply (wp_store 𝒱₀ (c : Thread nD τ) none Set.univ (m := M2) (r := Rect.unit (s := S1x128) ![0, 0] S1x128.size inb_S1x128_S1x128_0_0) (View.set_slice_subset _ _)) $$ H2; iintro H2
  rw [wp_ret]
  imodintro
  iapply Hk
  isplitl [H0]; · iexists f0; isplitr; · ipureintro; exact hf0
                  iexact H0
  isplitl [H1]
  · iexists _; isplitr; swap; · iexact H1
    ipureintro; subst hf0; exact read_all M1 f1 _
  · iexists _; isplitr; swap; · iexact H2
    ipureintro; subst hf0; exact read_all M2 f2 _

end Body

/-! ## The region -/

abbrev K : SparseCore.Cfg τ sig (Pipeline.Sig Λ₀ (Fin 1) fun p => (pcfgs (F := F) p).Adm) 1 := sc (F := F)

/-- The pairs the TensorCore's waits may have recorded once the tiles' call is over. -/
def recd (c : Dev nD) : Set (SemLoc sig × HIx 1) := {p | (K (F := F)).lev (SparseCore.T c, p.1) p.2 ≤ 8}

variable (X : (c : Dev nD) → Vec F S4x32x128 .f32) (Y1 : (c : Dev nD) → Vec F S1x128 .f32) (Y2 : (c : Dev nD) → Vec F S1x128 .i32)

/-- The region's proof data: the partial results `X`, the two outputs at whatever they hold. -/
def finDat (c : Dev nD) : Dat τ (Elt F) (HIx 1) ℕ UU ℕ cfg1 c where
  A w := match w with
    | ⟨0, _⟩ => X c
    | ⟨1, _⟩ => Y1 c
    | ⟨2, _⟩ => Y2 c
  after w _ := match w with
    | ⟨0, _⟩ => X c
    | ⟨1, _⟩ => finLp (X c)
    | ⟨2, _⟩ => finMd (X c)
  Φ _ := BI.emp
  q _ := fullShare
  owed _ := 0
  recorded _ := recd (F := F) c

theorem fin_before (c : Dev nD) (x : (cfg1.win 0).block.Idx → Elt F (cfg1.win 0).elt) : (finDat X Y1 Y2 c).before 0 t1_0 x = X c := by
  unfold Dat.before; rw [if_pos (fetch1_0 t1_0)]
  funext j
  show X c _ = X c j
  congr 1
  funext a; apply Fin.ext
  exact Pipeline.Window.rect_emb_val_of_index_zero win1_0 t1_0 _ rfl _

theorem fin_body (c : Dev nD) : Pipeline.BodyObligation (finDat X Y1 Y2 c) (defs₀ (F := F)) 𝒱₀ none Set.univ := fun t => by
  obtain rfl := fin_N1 t
  rw [bigSep_W1, bigSep_W1]
  rw [show (finDat X Y1 Y2 c).Φ t1_0.castSucc = BI.emp from rfl, show (finDat X Y1 Y2 c).Φ t1_0.succ = BI.emp from rfl,
    show (finDat X Y1 Y2 c).owesAt none t1_0.succ = (finDat X Y1 Y2 c).owesAt none t1_0.castSucc from rfl]
  iintro ⟨HΦ, Howes, ⟨%x0, H0⟩, ⟨%x1, H1⟩, ⟨%x2, H2⟩⟩
  rw [fin_before]
  iapply (wp_fin c (win1_0.stage (cfg1.slots t1_0 0)) (hstage1_0 0) (win1_1.stage (cfg1.slots t1_0 1)) (hstage1_1 0) (win1_2.stage (cfg1.slots t1_0 2)) (hstage1_2 0) (X c) _ _ _) $$ [HΦ Howes H0 H1 H2]
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

theorem fin_out1 (c : Dev nD) : (finDat X Y1 Y2 c).arrAt 1 cfg1.N = finLp (X c) :=
  Dat.arrAt_eq_of_after_last _ 1 t1_0 (by decide +kernel) _ fun j => rfl
theorem fin_out2 (c : Dev nD) : (finDat X Y1 Y2 c).arrAt 2 cfg1.N = finMd (X c) :=
  Dat.arrAt_eq_of_after_last _ 2 t1_0 (by decide +kernel) _ fun j => rfl

abbrev adm : (p : Fin 1) → (pcfgs (F := F) p).Adm := fun p => (cfgs p).toPCfg_adm

def finDats : (p : Fin 1) → (c : Dev nD) → Dat τ (Elt F) (HIx 1) ℕ UU ℕ (Pipeline.pin (pcfgs (F := F)) adm p) c
  | ⟨0, _⟩ => fun c => finDat X Y1 Y2 c

/-- The three arrays, at given contents. -/
def fin3 (c : Dev nD) (A : Vec F S4x32x128 .f32) (B : Vec F S1x128 .f32) (C : Vec F S1x128 .i32) : sProp 𝕄 :=
  iprop(((SparseCore.T c).loc main_v2 ↦{fullShare} A) ∗ ((SparseCore.T c).loc main_v3_0 ↦{fullShare} B) ∗ ((SparseCore.T c).loc main_v3_1 ↦{fullShare} C))

/-- The TensorCore owing nothing, what its waits recorded within what the tiles' call leaves. -/
def finOw (c : Dev nD) : sProp 𝕄 :=
  iprop(∃ W, ⌜(K (F := F)).WBelow (SparseCore.T c) W 8⌝ ∗ owes (SparseCore.T c) (0 : CellTallies nD τ sig (HIx 1)) W)

theorem arrays3 (c : Dev nD) (G : (w : Fin cfg1.W) → Buf (Elt F) ((cfg1.win w).arr.view.loc (c : Thread nD τ))) :
    (finDat X Y1 Y2 c).arrays G = fin3 c (G 0) (G 1) (G 2) := by
  unfold fin3
  refine Eq.trans (Pipeline.arrays_eq (cfgs := fun p => cfgs p) (dats := finDats X Y1 Y2) (p := 0) c launch1.arr_whole
    ((finDats X Y1 Y2 0 c).share_full fun _ => rfl) G) ?_
  exact bigSep_W1 _

set_option backward.isDefEq.respectTransparency.types false in
/-- The finishing call as a region of @main. -/
def finReg : Pipeline.RegionSeg (pcfgs (F := F)) adm (finDats X Y1 Y2) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (fin_body X Y1 Y2 c).loose
  hwaits := Pipeline.hwaits_of_owed_zero _ _ _ _ _ _ 0 fun _ _ => rfl
  pre c := iprop(fin3 c (X c) (Y1 c) (Y2 c) ∗ finOw (F := F) c)
  post c := iprop(fin3 c (X c) (finLp (X c)) (finMd (X c)) ∗ finOw (F := F) c)
  X _ := BI.emp
  Y _ := BI.emp
  Z _ := BI.emp
  hentry c := by
    rw [Pipeline.ownSems0_none]
    show _ ⊢ |={Set.univ}=> iprop((finDat X Y1 Y2 c).arrays ((finDat X Y1 Y2 c).arrAt · 0) ∗ _)
    rw [arrays3]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold finOw Pipeline.Dat.owesAt Pipeline.owesWithin
      icases HO with ⟨%W, %hW, HO⟩; iexists W; isplitr; · ipureintro; exact fun p hp => Or.inl (hW p hp)
      iexact HO
    isplitr <;> iempintro
  hin c := by
    rw [show (finDats X Y1 Y2 0 c).Φ 0 = BI.emp from rfl, scopedRest1_eq]
    iintro ⟨-, -, Hr⟩; iexact Hr
  hout c := by
    rw [Pipeline.ownSems0_none, show (finDats X Y1 Y2 0 c).Φ (Fin.last _) = BI.emp from rfl, scopedRest1_eq]
    iintro Hr
    isplitr; · iempintro
    isplitr; · iempintro
    iexact Hr
  hexit c := by
    show iprop((finDat X Y1 Y2 c).arrays ((finDat X Y1 Y2 c).arrAt · cfg1.N) ∗ _) ⊢ _
    rw [arrays3, fin_out1, fin_out2, (finDat X Y1 Y2 c).arrAt_in 0 rfl]
    iintro ⟨Ha, HO, -, -⟩
    imodintro
    isplitl [Ha]; · iexact Ha
    unfold finOw Pipeline.Dat.owesAt Pipeline.owesWithin
    icases HO with ⟨%W, %hW, HO⟩; iexists W
    isplitr; swap; · iexact HO
    ipureintro
    intro p hp
    rcases hW hp with h | ⟨w, s, h⟩
    · exact h
    · rw [h]; exact Nat.zero_le _

end Cert.Proof.Tile

end
-- ==== Proof.Tiles.lean ====
/-
  A tile's task in the launch: its scratch and semaphores out of what the launch deals the tile, its four rows out of the array of
  partial results, the table at a share; and back, the rows at the tile's values (`tile_body`).
-/
module

public import proofs.«01_k».proof.Proof.Finish
public import Idealize.ShloMosaic.Lib.ValueLayout

@[expose] public section

noncomputable section

namespace Cert.Proof.Tile

open Cert.KernelIdeal Cert.KernelIdeal.Gen
open Idealize.ShloMosaic Idealize.ShloMosaic.Transfers
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The tile program's arrays and scratch, as the launch passes them. -/
abbrev RF : Refs where
  x := Memref.whole main_v0_scv
  hx := Memref.isWhole_whole _
  act := Memref.whole main_v1_scv
  hact := Memref.isWhole_whole _
  po := Memref.whole main_v2_scv
  hpo := Memref.isWhole_whole _
  b0 := Memref.whole cc0_scratch0
  hb0 := Memref.isWhole_whole _
  b1 := Memref.whole cc0_scratch1
  hb1 := Memref.isWhole_whole _
  av := Memref.whole cc0_scratch2
  hav := Memref.isWhole_whole _
  m := Memref.whole cc0_scratch3
  hm := Memref.isWhole_whole _
  s := Memref.whole cc0_scratch4
  hs := Memref.isWhole_whole _
  g := Memref.whole cc0_scratch5
  hg := Memref.isWhole_whole _
  ix := Memref.whole cc0_scratch6
  hix := Memref.isWhole_whole _
  fx := Memref.whole cc0_scratch7
  hfx := Memref.isWhole_whole _
  q0 := cc0_scratch8
  q1 := cc0_scratch9
  r0 := cc0_scoped0
  r1 := cc0_scoped1
  r2 := cc0_scoped2
  r3 := cc0_scoped3
  r4 := cc0_scoped4

abbrev xLoc (d : Dev nD) : Loc nD τ sig := (SparseCore.T d).loc main_v0
abbrev aLoc (d : Dev nD) : Loc nD τ sig := (SparseCore.T d).loc main_v1
abbrev oLoc (d : Dev nD) : Loc nD τ sig := (SparseCore.T d).loc main_v2

/-! ## Rows of the partial results -/

/-- Row `w` of plane `k`. -/
def rowS (w : ℕ) (k : Fin 4) : Finset S4x32x128.Idx := Finset.univ.filter fun j => (j 0).val = k.val ∧ (j 1).val = w
/-- The rows of tile `w`. -/
def tileS (w : ℕ) : Finset S4x32x128.Idx := Finset.univ.filter fun j => (j 1).val = w
/-- The rows of core `c`'s tiles. -/
def coreS (c : ℕ) : Finset S4x32x128.Idx := Finset.univ.filter fun j => (j 1).val % 2 = c

theorem tileS_eq (w : ℕ) : tileS w = Finset.univ.biUnion (rowS w) := by
  ext j; simp only [tileS, rowS, Finset.mem_filter, Finset.mem_univ, true_and, Finset.mem_biUnion]
  exact ⟨fun h => ⟨j 0, rfl, h⟩, fun ⟨_, _, h⟩ => h⟩

theorem coreS_eq (c : Fin 2) : coreS c.val = Finset.univ.biUnion fun s : Fin 16 => tileS (2 * s.val + c.val) := by
  ext j; simp only [coreS, tileS, Finset.mem_filter, Finset.mem_univ, true_and, Finset.mem_biUnion]
  have hj : (j 1).val < 32 := (j 1).isLt
  constructor
  · intro h; exact ⟨⟨(j 1).val / 2, by omega⟩, by show (j 1).val = 2 * ((j 1).val / 2) + _; omega⟩
  · rintro ⟨s, h⟩; omega

theorem univ_eq : (Finset.univ : Finset S4x32x128.Idx) = Finset.univ.biUnion fun c : Fin 2 => coreS c.val := by
  ext j; simp only [coreS, Finset.mem_filter, Finset.mem_univ, true_and, Finset.mem_biUnion, true_iff]
  exact ⟨⟨(j 1).val % 2, by omega⟩, rfl⟩

theorem rowS_disj (w : ℕ) : ∀ k ∈ (Finset.univ : Finset (Fin 4)), ∀ k' ∈ (Finset.univ : Finset (Fin 4)), k ≠ k' → Disjoint (rowS w k) (rowS w k') :=
  fun k _ k' _ h => Finset.disjoint_left.mpr fun j h1 h2 => h (Fin.ext (by
    simp only [rowS, Finset.mem_filter, Finset.mem_univ, true_and] at h1 h2; omega))
theorem tileS_disj (c : ℕ) : ∀ s ∈ (Finset.univ : Finset (Fin 16)), ∀ s' ∈ (Finset.univ : Finset (Fin 16)), s ≠ s' →
    Disjoint (tileS (2 * s.val + c)) (tileS (2 * s'.val + c)) :=
  fun s _ s' _ h => Finset.disjoint_left.mpr fun j h1 h2 => h (Fin.ext (by
    simp only [tileS, Finset.mem_filter, Finset.mem_univ, true_and] at h1 h2; omega))
theorem coreS_disj : ∀ c ∈ (Finset.univ : Finset (Fin 2)), ∀ c' ∈ (Finset.univ : Finset (Fin 2)), c ≠ c' → Disjoint (coreS c.val) (coreS c'.val) :=
  fun c _ c' _ h => Finset.disjoint_left.mpr fun j h1 h2 => h (Fin.ext (by
    simp only [coreS, Finset.mem_filter, Finset.mem_univ, true_and] at h1 h2; omega))

theorem poRow_emb (off : Fin 3 → Nat) (h : ∀ a, off a + S1x1x128.size a ≤ S4x32x128.size a) (k : Fin 4) (w : Fin 32) (e : off = ![k.val, w.val, 0])
    (u : S128.Idx) : (poRow RF off h).view.emb u = ix3 k w (u 0) := by
  subst e
  have h2 : (poRow RF ![k.val, w.val, 0] h).view.emb u
      = (Rect.unit (s := S4x32x128) ![k.val, w.val, 0] S1x1x128.size h).emb (Shape.reshapeEquiv (squeezes_S1x1x128_S128).numel_eq u) := rfl
  rw [h2, Shape.reshapeEquiv_eq_of_rowMajor (s := S1x1x128) (s' := S128) _ (x := u) (y := ix3 0 0 (u 0)) (by
    rw [Shape.rowMajor_val_three, Shape.rowMajor_val_one]
    show ((0 * 1 + 0) * 128 + (u 0).val) = (u 0).val
    omega)]
  funext a; apply Fin.ext; rw [Rect.emb_apply]
  fin_cases a <;> simp

theorem set_poRow (off : Fin 3 → Nat) (h : ∀ a, off a + S1x1x128.size a ≤ S4x32x128.size a) (k : Fin 4) (w : Fin 32) (e : off = ![k.val, w.val, 0]) :
    (poRow RF off h).view.set = rowS w.val k := by
  ext j
  constructor
  · intro hj
    obtain ⟨u, -, rfl⟩ := Finset.mem_map.mp hj
    rw [poRow_emb off h k w e]
    simp [rowS]
  · intro hj
    simp only [rowS, Finset.mem_filter, Finset.mem_univ, true_and] at hj
    refine Finset.mem_map.mpr ⟨ix1 (j 2), Finset.mem_univ _, ?_⟩
    rw [poRow_emb off h k w e]
    funext a; fin_cases a
    · exact Fin.ext hj.1.symm
    · exact Fin.ext hj.2.symm
    · rfl

/-- The partial results the tiles leave: planes of maxima, sums, indices and picked logits, a row per tile. -/
def poOf (act : Vec F S128 .i32) (X : Vec F S100000x128 .f32) : Vec F S4x32x128 .f32 := fun j => rowVal act X (j 1).val (j 0) (ix1 (j 2))

variable (d : Dev nD) {i : grid0.Coords}

theorem row_in (off : Fin 3 → Nat) (h : ∀ a, off a + S1x1x128.size a ≤ S4x32x128.size a) (k : Fin 4) (w : Fin 32) (e : off = ![k.val, w.val, 0])
    (f : Buf (Elt F) (oLoc d)) :
    (oLoc d ↦[rowS w.val k]{fullShare} f : sProp 𝕄) ⊢ held0 d i (poRow RF off h) := by
  unfold held0 hold
  rw [set_poRow off h k w e]
  iintro H
  iexists _; iexists f; isplitr; · ipureintro; rfl
  iexact H

theorem row_out (off : Fin 3 → Nat) (h : ∀ a, off a + S1x1x128.size a ≤ S4x32x128.size a) (k : Fin 4) (w : Fin 32) (e : off = ![k.val, w.val, 0])
    (act : Vec F S128 .i32) (X : Vec F S100000x128 .f32) :
    hold d i (poRow RF off h) (rowVal act X w.val k) ⊢ (oLoc d ↦[rowS w.val k]{fullShare} poOf act X : sProp 𝕄) := by
  unfold hold
  rw [set_poRow off h k w e]
  iintro ⟨%f, %hf, H⟩
  rw [← pointsTo_congr (ℓ := oLoc d) (f := f) (g := poOf act X) fun j hj => ?_]
  · iexact H
  · simp only [rowS, Finset.mem_filter, Finset.mem_univ, true_and] at hj
    have := congrFun hf (ix1 (j 2))
    have e2 : (poRow RF off h).view.emb (ix1 (j 2)) = j := by
      rw [poRow_emb off h k w e]
      funext a; fin_cases a
      · exact Fin.ext hj.1.symm
      · exact Fin.ext hj.2.symm
      · rfl
    have e3 : f ((poRow RF off h).view.emb (ix1 (j 2))) = rowVal act X w.val k (ix1 (j 2)) := this
    rw [e2] at e3
    rw [e3]; unfold poOf
    rw [hj.2, show (j 0 : Fin 4) = k from Fin.ext hj.1]

/-! ## The tile's scratch and semaphores -/

/-- The tile program's semaphores, and its scratch buffers. -/
def semL : Finset (SemLoc sig) :=
  {.dma cc0_scratch8.sem, .dma cc0_scratch9.sem, .dma cc0_scoped0.sem, .dma cc0_scoped1.sem, .dma cc0_scoped2.sem, .dma cc0_scoped3.sem, .dma cc0_scoped4.sem}
def bufL : Finset (Ref sig .scVector) :=
  {cc0_scratch0, cc0_scratch1, cc0_scratch2, cc0_scratch3, cc0_scratch4, cc0_scratch5, cc0_scratch6, cc0_scratch7}

/-- The rest of what the launch deals the tile, which its task does not touch. -/
def spare (i : grid0.Coords) : sProp 𝕄 :=
  iprop((bigSep (ownRefs (τ := τ) (thr d i).2 \ bufL.image (Proc.devRef (thr d i).2)) fun b => iprop(∃ f, ((d, b) : Loc nD τ sig) ↦{fullShare} f))
    ∗ bigSep (ownCells (thr d i) \ semL.image fun q => (thr d i, q)) fun g => semVal g 0)

theorem ownBufs_tile :
    (ownBufs (thr d i) : sProp 𝕄)
      = iprop((bigSep bufL fun b => iprop(∃ f, (thr d i).loc b ↦{fullShare} f))
          ∗ bigSep (ownRefs (τ := τ) (thr d i).2 \ bufL.image (Proc.devRef (thr d i).2)) fun b => iprop(∃ f, ((d, b) : Loc nD τ sig) ↦{fullShare} f)) := by
  unfold SparseCore.Cfg.ownBufs
  rw [SparseCore.bigSep_sdiff_split' (t := bufL.image (Proc.devRef (thr d i).2)) (fun b hb => ?_),
    SparseCore.bigSep_image_of_injOn (fun a _ b _ h => Proc.devRef_injective _ h)]
  · obtain ⟨r, hr, rfl⟩ := Finset.mem_image.mp hb
    refine SparseCore.Cfg.mem_ownRefs_of_owner ?_
    simp only [bufL, Finset.mem_insert, Finset.mem_singleton] at hr
    rcases hr with rfl | rfl | rfl | rfl | rfl | rfl | rfl | rfl <;> rfl

theorem ownSems_tile :
    (ownSems0 (thr d i) : sProp 𝕄)
      = iprop((bigSep semL fun q => semVal (thr d i, q) 0)
          ∗ bigSep (ownCells (thr d i) \ semL.image fun q => (thr d i, q)) fun g => semVal g 0) := by
  unfold SparseCore.Cfg.ownSems0
  rw [SparseCore.bigSep_sdiff_split' (t := semL.image fun q => (thr d i, q)) (fun g hg => ?_),
    SparseCore.bigSep_image_of_injOn (fun a _ b _ h => congrArg Prod.snd h)]
  · obtain ⟨q, hq, rfl⟩ := Finset.mem_image.mp hg
    refine mem_ownCells.mpr ⟨rfl, ?_⟩
    show q.isScoped .scVector = true
    simp only [semL, Finset.mem_insert, Finset.mem_singleton] at hq
    rcases hq with rfl | rfl | rfl | rfl | rfl | rfl | rfl <;> decide

theorem held_whole (b : Ref sig .scVector) :
    (held0 (F := F) d i (Memref.whole b) : sProp 𝕄) = iprop(∃ f, (thr d i).loc b ↦{fullShare} f) := by
  have h1 : held0 (F := F) d i (Memref.whole b) ⊢ (iprop(∃ f, (thr d i).loc b ↦{fullShare} f) : sProp 𝕄) := by
    unfold held0 hold
    rw [Memref.view_whole, View.set_whole]
    iintro ⟨%v, %f, -, H⟩; iexists f; iexact H
  have h2 : (iprop(∃ f, (thr d i).loc b ↦{fullShare} f) : sProp 𝕄) ⊢ held0 (F := F) d i (Memref.whole b) := by
    unfold held0 hold
    rw [Memref.view_whole, View.set_whole]
    iintro ⟨%f, H⟩; iexists _; iexists f; isplitr; · ipureintro; rfl
    iexact H
  exact BI.Entails.antisymm h1 h2

/-- What the tile's task works in, beside the rest. -/
theorem rest_eq : (iprop(ownBufs (thr d i) ∗ ownSems0 (thr d i)) : sProp 𝕄) ⊣⊢ iprop(rest (F := F) d RF i ∗ spare (F := F) d i) := by
  rw [ownBufs_tile, ownSems_tile]
  unfold rest spare bufL semL
  simp only [held_whole]
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  constructor
  · iintro ⟨⟨HB, HB'⟩, HS, HS'⟩
    isplitl [HB HS]
    · isplitl [HB] <;> iassumption
    · isplitl [HB'] <;> iassumption
  · iintro ⟨⟨HB, HS⟩, HB', HS'⟩
    isplitl [HB HB']
    · isplitl [HB] <;> iassumption
    · isplitl [HS] <;> iassumption

theorem off38_eq : k0_off38 i = ![0, W i, 0] := by
  show ![0, (wid i).toNat, 0] = _
  rw [wid_eq]; have := W_lt i; congr 2; rw [BitVec.toNat_ofNat]; omega
theorem off39_eq : k0_off39 i = ![1, W i, 0] := by
  show ![1, (wid i).toNat, 0] = _
  rw [wid_eq]; have := W_lt i; congr 2; rw [BitVec.toNat_ofNat]; omega
theorem off40_eq : k0_off40 i = ![2, W i, 0] := by
  show ![2, (wid i).toNat, 0] = _
  rw [wid_eq]; have := W_lt i; congr 2; rw [BitVec.toNat_ofNat]; omega
theorem off41_eq : k0_off41 i = ![3, W i, 0] := by
  show ![3, (wid i).toNat, 0] = _
  rw [wid_eq]; have := W_lt i; congr 2; rw [BitVec.toNat_ofNat]; omega

theorem tile_rows (f : Buf (Elt F) (oLoc d)) (w : ℕ) :
    (oLoc d ↦[tileS w]{fullShare} f : sProp 𝕄)
      = iprop((oLoc d ↦[rowS w 0]{fullShare} f) ∗ (oLoc d ↦[rowS w 1]{fullShare} f) ∗ (oLoc d ↦[rowS w 2]{fullShare} f) ∗ (oLoc d ↦[rowS w 3]{fullShare} f)) := by
  rw [tileS_eq, pointsTo_biUnion (ℓ := oLoc d) Finset.univ (rowS w) (rowS_disj w), show (Finset.univ : Finset (Fin 4)) = {0, 1, 2, 3} by decide,
    SparseCore.bigSep_insert' (by decide), SparseCore.bigSep_insert' (by decide), SparseCore.bigSep_insert' (by decide), bigSep_singleton]

theorem rows_in (f : Buf (Elt F) (oLoc d)) :
    (oLoc d ↦[tileS (W i)]{fullShare} f : sProp 𝕄) ⊢ rows4 i fun off h _ => held0 d i (poRow RF off h) := by
  rw [tile_rows]
  unfold rows4
  iintro ⟨H0, H1, H2, H3⟩
  isplitl [H0]; · iapply (row_in d _ _ 0 ⟨W i, W_lt i⟩ off38_eq f) $$ H0
  isplitl [H1]; · iapply (row_in d _ _ 1 ⟨W i, W_lt i⟩ off39_eq f) $$ H1
  isplitl [H2]; · iapply (row_in d _ _ 2 ⟨W i, W_lt i⟩ off40_eq f) $$ H2
  iapply (row_in d _ _ 3 ⟨W i, W_lt i⟩ off41_eq f) $$ H3

theorem rows_out (act : Vec F S128 .i32) (X : Vec F S100000x128 .f32) :
    (rows4 i fun off h k => hold d i (poRow RF off h) (rowVal act X (W i) k)) ⊢ (oLoc d ↦[tileS (W i)]{fullShare} poOf act X : sProp 𝕄) := by
  rw [tile_rows]
  unfold rows4
  iintro ⟨H0, H1, H2, H3⟩
  isplitl [H0]; · iapply (row_out d _ _ 0 ⟨W i, W_lt i⟩ off38_eq act X) $$ H0
  isplitl [H1]; · iapply (row_out d _ _ 1 ⟨W i, W_lt i⟩ off39_eq act X) $$ H1
  isplitl [H2]; · iapply (row_out d _ _ 2 ⟨W i, W_lt i⟩ off40_eq act X) $$ H2
  iapply (row_out d _ _ 3 ⟨W i, W_lt i⟩ off41_eq act X) $$ H3

/-! ## The task -/

/-- A tile's operands: the table and the selected indices at a share, its rows of the partial results holding `f`. -/
def task (i : grid0.Coords) (q : PosShare TreeShare) (X : Vec F S100000x128 .f32) (act : Vec F S128 .i32) (f : Vec F S4x32x128 .f32) : sProp 𝕄 :=
  iprop((xLoc d ↦{q} X) ∗ (aLoc d ↦{q} act) ∗ (oLoc d ↦[tileS (W i)]{fullShare} f))

theorem tile_body (hF : (K (F := F)).Facts) (q : PosShare TreeShare) (X : Vec F S100000x128 .f32) (act : Vec F S128 .i32) (f : Vec F S4x32x128 .f32)
    (O : CellTallies nD τ sig (HIx 1)) (W₀ : Waits sig (HIx 1)) (hO : ∀ g, O g none = 0) :
    iprop(levAts (K (F := F)).L (K (F := F)).lev ∗ emp ∗ task d i q X act f ∗ scopedBufs (thr d i) ∗ scopedSems0 (thr d i) ∗ owes (thr d i) O W₀)
      ⊢ run d (i := i) (cc0__sc_body (F := F) i RF.x RF.hx RF.act RF.hact RF.po RF.hpo RF.b0 RF.hb0 RF.b1 RF.hb1 RF.av RF.hav RF.m RF.hm RF.s RF.hs
            RF.g RF.hg RF.ix RF.hix RF.fx RF.hfx RF.q0 RF.q1 RF.r0 RF.r1 RF.r2 RF.r3 RF.r4)
          fun _ => iprop(task d i q X act (poOf act X) ∗ scopedBufs (thr d i) ∗ scopedSems0 (thr d i)
            ∗ ∃ W', ⌜∀ p ∈ W', p ∈ W₀ ∨ p.2 = none⌝ ∗ owes (thr d i) O W') := by
  rw [body_eq, (K (F := F)).scopedBufs_V hF d ((i 0).castLE hcore0) ((i 1).castLE hsub0),
    SparseCore.Cfg.scopedSems0_V (Val := Elt F) d ((i 0).castLE hcore0) ((i 1).castLE hsub0)]
  unfold task
  iintro ⟨#Hlv, -, ⟨Hx, Ha, Ho⟩, HB, HS, HO⟩
  ihave HR := (rest_eq (F := F) d (i := i)).1 $$ [HB HS]
  · isplitl [HB] <;> iassumption
  icases HR with ⟨HR, Hsp⟩
  ihave Hx := (pointsTo_share (PosShare.mem_left_op_right q)).1 $$ Hx
  icases Hx with ⟨Hx1, Hx2⟩
  ihave Ho := (rows_in d f) $$ Ho
  iapply (wp_wand frame _ _) $$ [Hx1 Hx2 Ha Ho HR HO]
  · iapply (wp_body d RF O W₀ X q.left q.right q act)
    unfold xAt Ow
    rw [show RF.x.view.set = Finset.univ from View.set_whole _, show RF.act.view.set = Finset.univ from View.set_whole _]
    isplitl [Hx1]; · iexact Hx1
    isplitl [Hx2]; · iexact Hx2
    isplitl [Ha]; · iexact Ha
    isplitl [Ho]; · iexact Ho
    isplitl [HR]; · iexact HR
    isplitr; · iapply ((K (F := F)).mayWaits_none (thr := thr d i) hO); iexact Hlv
    iexists W₀; isplitr; · ipureintro; exact fun p hp => Or.inl hp
    iexact HO
  iintro %_ H
  unfold xAt Ow
  rw [show RF.x.view.set = Finset.univ from View.set_whole _, show RF.act.view.set = Finset.univ from View.set_whole _,
    show RF.x.view.read (Elt F) X = X from rfl, show RF.act.view.read (Elt F) act = act from rfl]
  icases H with ⟨Hx1, Hx2, Ha, Ho, HR, -, HO⟩
  ihave Hx := (pointsTo_share (PosShare.mem_left_op_right q)).2 $$ [Hx1 Hx2]
  · isplitl [Hx1] <;> iassumption
  ihave HR := (rest_eq (F := F) d (i := i)).2 $$ [HR Hsp]
  · isplitl [HR] <;> iassumption
  icases HR with ⟨HB, HS⟩
  ihave Ho := (rows_out (i := i) d act X) $$ Ho
  isplitl [Hx Ha Ho]
  · isplitl [Hx]; · iexact Hx
    isplitl [Ha]; · iexact Ha
    iexact Ho
  isplitl [HB]; · iexact HB
  isplitl [HS]; · iexact HS
  iexact HO

end Cert.Proof.Tile

end
-- ==== Proof.Launch.lean ====
/-
  The launch: what goes to a core and on to its tiles, how it comes back, and @main on the TensorCore around it (`run_main`). The
  table and the labels go out as read shares, the array of partial results by rows.
-/
module

public import proofs.«01_k».proof.Proof.Tiles

@[expose] public section

noncomputable section

namespace Cert.Proof.Tile

open Cert.KernelIdeal Cert.KernelIdeal.Gen
open Idealize.ShloMosaic Idealize.ShloMosaic.Transfers
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MT nD τ sig (HIx 1) (Elt F) ℕ UU ℕ

/-! ## The program as the launch theorem sees it -/

abbrev D : Defs nD τ sig (Elt F) (Pipeline.Sig Λ₀ (Fin 1) fun p => (pcfgs (F := F) p).Adm) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
/-- The finishing call's staging cells, in the middle component of the ghost state. -/
def EP : Emb (UR sig nD τ) (MT nD τ sig (HIx 1) (Elt F) ℕ UU ℕ) :=
  ((Emb.inl : Emb (UR sig nD τ) (UR sig nD τ × Counters)).trans (Emb.inr : Emb (UR sig nD τ × Counters) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb (UR sig nD τ) 𝕄).LandsIn (upEmb : UEmb _ 𝕄) := by unfold EP; infer_instance

def coordsV (c : Fin 2) (s : Fin 16) : grid0.Coords :=
  fun | 0 => c | 1 => s | ⟨_ + 2, h⟩ => absurd h (Nat.not_lt.2 (Nat.le_add_left _ _))

theorem W_coordsV (c : Fin 2) (s : Fin 16) : W (coordsV c s) = 2 * s.val + c.val := rfl

/-! ## What a core is handed -/

section Res

variable (d : Dev nD) (X : Vec F S100000x128 .f32) (act : Vec F S128 .i32)

abbrev coreQ (c : Fin 2) : PosShare TreeShare := shareTok fullShare 2 c

/-- A core's part: the table and the labels at its share, its tiles' rows of the partial results. -/
def coreRes (c : Fin 2) (f : Vec F S4x32x128 .f32) : sProp 𝕄 :=
  iprop((xLoc d ↦{coreQ c} X) ∗ (aLoc d ↦{coreQ c} act) ∗ (oLoc d ↦[coreS c.val]{fullShare} f))

theorem tiles_rows (c : Fin 2) (f : Vec F S4x32x128 .f32) :
    (oLoc d ↦[coreS c.val]{fullShare} f : sProp 𝕄) = bigSep Finset.univ fun s : Fin 16 => oLoc d ↦[tileS (W (coordsV c s))]{fullShare} f := by
  rw [coreS_eq]
  exact pointsTo_biUnion (ℓ := oLoc d) Finset.univ (fun s : Fin 16 => tileS (2 * s.val + c.val)) (tileS_disj c.val)

theorem cores_rows (f : Vec F S4x32x128 .f32) :
    (oLoc d ↦{fullShare} f : sProp 𝕄) = bigSep Finset.univ fun c : Fin 2 => oLoc d ↦[coreS c.val]{fullShare} f := by
  rw [show (oLoc d ↦{fullShare} f : sProp 𝕄) = (oLoc d ↦[Finset.univ.biUnion fun c : Fin 2 => coreS c.val]{fullShare} f) from
    congrArg (fun S => (oLoc d ↦[S]{fullShare} f : sProp 𝕄)) univ_eq]
  exact pointsTo_biUnion (ℓ := oLoc d) Finset.univ (fun c : Fin 2 => coreS c.val) coreS_disj

/-- A core's part into its tiles' tasks, and back at what the tiles wrote. -/
theorem core_tasks (c : Fin 2) (f g : Vec F S4x32x128 .f32) :
    (coreRes d X act c f : sProp 𝕄) ⊢ iprop((bigSep Finset.univ fun s : Fin 16 => task d (coordsV c s) (shareTok (coreQ c) 16 s) X act f)
      ∗ ((bigSep Finset.univ fun s : Fin 16 => task d (coordsV c s) (shareTok (coreQ c) 16 s) X act g) -∗ coreRes d X act c g)) := by
  unfold coreRes task
  rw [bigSep_sep', bigSep_sep', bigSep_sep', bigSep_sep', tiles_rows, tiles_rows]
  iintro ⟨Hx, Ha, Ho⟩
  ihave Hx' := (pointsTo_toks_split (coreQ c) 16) $$ Hx
  ihave Ha' := (pointsTo_toks_split (coreQ c) 16) $$ Ha
  icases Hx' with ⟨Hxd, Hx⟩
  icases Ha' with ⟨Had, Ha⟩
  isplitl [Hx Ha Ho]
  · isplitl [Hx]; · iexact Hx
    isplitl [Ha]; · iexact Ha
    iexact Ho
  iintro ⟨Hx, Ha, Ho⟩
  isplitl [Hx Hxd]
  · iapply (pointsTo_toks_join (coreQ c) 16); isplitl [Hxd] <;> iassumption
  isplitl [Ha Had]
  · iapply (pointsTo_toks_join (coreQ c) 16); isplitl [Had] <;> iassumption
  iexact Ho

/-- The three arrays into the two cores' parts, and back. -/
theorem cores_split (f g : Vec F S4x32x128 .f32) :
    iprop((xLoc d ↦{fullShare} X) ∗ (aLoc d ↦{fullShare} act) ∗ (oLoc d ↦{fullShare} f)) ⊢ (iprop((bigSep Finset.univ fun c : Fin 2 => coreRes d X act c f)
      ∗ ((bigSep Finset.univ fun c : Fin 2 => coreRes d X act c g)
          -∗ iprop((xLoc d ↦{fullShare} X) ∗ (aLoc d ↦{fullShare} act) ∗ (oLoc d ↦{fullShare} g)))) : sProp 𝕄) := by
  unfold coreRes
  rw [bigSep_sep', bigSep_sep', bigSep_sep', bigSep_sep', cores_rows, cores_rows]
  iintro ⟨Hx, Ha, Ho⟩
  ihave Hx' := (pointsTo_toks_split fullShare 2) $$ Hx
  ihave Ha' := (pointsTo_toks_split fullShare 2) $$ Ha
  icases Hx' with ⟨Hxd, Hx⟩
  icases Ha' with ⟨Had, Ha⟩
  isplitl [Hx Ha Ho]
  · isplitl [Hx]; · iexact Hx
    isplitl [Ha]; · iexact Ha
    iexact Ho
  iintro ⟨Hx, Ha, Ho⟩
  isplitl [Hx Hxd]
  · iapply (pointsTo_toks_join fullShare 2); isplitl [Hxd] <;> iassumption
  isplitl [Ha Had]
  · iapply (pointsTo_toks_join fullShare 2); isplitl [Had] <;> iassumption
  iexact Ho

end Res

/-! ## The values -/

variable (m : (ℓ : Loc nD τ sig) → Buf (Elt F) ℓ) (ρ : Dev nD → PrngReg)

def tX (d : Dev nD) : Vec F S100000x128 .f32 := transpose S100000x128 [1, 0] (m ((SparseCore.T d).loc main_arg0)) transposes_S128x100000_S100000x128_1_0
def tA (d : Dev nD) : Vec F S128 .i32 := shapeCast S128 (m ((SparseCore.T d).loc main_arg1)) shapeCasts_S128x1_S128
/-- The partial results. -/
def tP (d : Dev nD) : Vec F S4x32x128 .f32 := poOf (tA m d) (tX m d)
def res0 (d : Dev nD) : Vec F S128x1 .f32 := shapeCast S128x1 (finLp (tP m d)) shapeCasts_S1x128_S128x1
def res1 (d : Dev nD) : Vec F S128x1 .i32 := shapeCast S128x1 (finMd (tP m d)) shapeCasts_S1x128_S128x1

/-! ## The protocol's payloads -/

theorem nCore_zero : (K (F := F)).nCore 0 = 2 := rfl
theorem nSub_zero : (K (F := F)).nSub 0 = 16 := rfl

abbrev inTask (d : Dev nD) (c : Fin 2) (s : Fin 16) : sProp 𝕄 := task d (coordsV c s) (shareTok (coreQ c) 16 s) (tX m d) (tA m d) (m (oLoc d))
abbrev outTask (d : Dev nD) (c : Fin 2) (s : Fin 16) : sProp 𝕄 := task d (coordsV c s) (shareTok (coreQ c) 16 s) (tX m d) (tA m d) (tP m d)

instance task_storable (d : Dev nD) (i : grid0.Coords) (q : PosShare TreeShare) (X : Vec F S100000x128 .f32) (act : Vec F S128 .i32) (f : Vec F S4x32x128 .f32) :
    BI.Storable (upEmb : UEmb _ 𝕄) (task d i q X act f) := by unfold task; infer_instance
instance coreRes_storable (d : Dev nD) (c : Fin 2) (X : Vec F S100000x128 .f32) (act : Vec F S128 .i32) (f : Vec F S4x32x128 .f32) :
    BI.Storable (upEmb : UEmb _ 𝕄) (coreRes d X act c f) := by unfold coreRes; infer_instance

def P : (K (F := F)).Pay (nD := nD) (Val := Elt F) (Name := ℕ) (U := UU) where
  st := fun q d c => match q with | 0 => coreRes d (tX m d) (tA m d) (Fin.cast nCore_zero c) (m (oLoc d))
  dn := fun q d c => match q with | 0 => coreRes d (tX m d) (tA m d) (Fin.cast nCore_zero c) (tP m d)
  go := fun q d c i => match q with | 0 => inTask m d (Fin.cast nCore_zero c) (Fin.cast nSub_zero i)
  td := fun q d c i => match q with | 0 => outTask m d (Fin.cast nCore_zero c) (Fin.cast nSub_zero i)
  x := fun _ _ => iprop(emp)

instance P_storable : (P (F := F) m).IsStorable where
  st q d c := match q with | 0 => (inferInstance : BI.Storable (upEmb : UEmb _ 𝕄) (coreRes d (tX m d) (tA m d) (Fin.cast nCore_zero c) (m (oLoc d))))
  dn q d c := match q with | 0 => (inferInstance : BI.Storable (upEmb : UEmb _ 𝕄) (coreRes d (tX m d) (tA m d) (Fin.cast nCore_zero c) (tP m d)))
  go q d c i := match q with | 0 => (inferInstance : BI.Storable (upEmb : UEmb _ 𝕄) (inTask m d (Fin.cast nCore_zero c) (Fin.cast nSub_zero i)))
  td q d c i := match q with | 0 => (inferInstance : BI.Storable (upEmb : UEmb _ 𝕄) (outTask m d (Fin.cast nCore_zero c) (Fin.cast nSub_zero i)))

/-! ## The launch theorem's obligations -/

theorem defs₀_vector (c : Fin τ.nSC) (s : Fin τ.nSub) :
    defs₀ (F := F) (.scVector c s) 0 ()
      = SparseCore.onTile hcore0 hsub0 (fun c s => cc0__sc_body (coordsV c s) RF.x RF.hx RF.act RF.hact RF.po RF.hpo RF.b0 RF.hb0 RF.b1 RF.hb1 RF.av RF.hav
          RF.m RF.hm RF.s RF.hs RF.g RF.hg RF.ix RF.hix RF.fx RF.hfx RF.q0 RF.q1 RF.r0 RF.r1 RF.r2 RF.r3 RF.r4) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body (i := coordsV ⟨_, hc.1⟩ ⟨_, hc.2⟩) d facts _ (tX m d) (tA m d) (m (oLoc d)) O W hO).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show coreRes d (tX m d) (tA m d) (Fin.cast nCore_zero c) (m (oLoc d)) ⊢ |={Set.univ}=> iprop(
      (bigSep Finset.univ fun i : Fin ((K (F := F)).nSub 0) => inTask m d (Fin.cast nCore_zero c) (Fin.cast nSub_zero i))
      ∗ ((bigSep Finset.univ fun i : Fin ((K (F := F)).nSub 0) => outTask m d (Fin.cast nCore_zero c) (Fin.cast nSub_zero i))
          -∗ coreRes d (tX m d) (tA m d) (Fin.cast nCore_zero c) (tP m d)))
  rw [bigSep_tasks (F := F) (fun i => inTask m d (Fin.cast nCore_zero c) i), bigSep_tasks (F := F) (fun i => outTask m d (Fin.cast nCore_zero c) i)]
  iintro H; imodintro
  iapply (core_tasks d (tX m d) (tA m d) (Fin.cast nCore_zero c) (m (oLoc d)) (tP m d)); iexact H

/-! ## The launch element of the ghost state -/

theorem pinj : Function.Injective (Pipeline.cellOf (nD := nD) (τ := τ) (Pipeline.pin (pcfgs (F := F)) adm)) := cellOf_inj

def u₀ : UU := (initOf (K (F := F)).hsCells (K (F := F)).hsToks,
  (initOf (Pipeline.cells (Pipeline.pin (pcfgs (F := F)) adm) pinj) (Pipeline.launchToks (Pipeline.pin (pcfgs (F := F)) adm) pinj), 1))

/-- What @main starts with on device `d`: the finishing call's cells and tokens. -/
abbrev G (d : Dev nD) : sProp 𝕄 :=
  iprop(Pipeline.cellsGhost (Pipeline.pin (pcfgs (F := F)) adm) EP 0 d ∗ Pipeline.toksInit (Pipeline.pin (pcfgs (F := F)) adm) EP 0 d)

theorem ownU_split (a : UH) (b : UR sig nD τ) : (ownU (a, (b, 1)) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, 1))))

theorem bigSep_one (Φ : Fin 1 → Dev nD → sProp 𝕄) :
    (bigSep Finset.univ fun d : Dev nD => bigSep Finset.univ fun p : Fin 1 => Φ p d) = bigSep Finset.univ (Φ 0) :=
  bigSep_congr fun _ _ => bigSep_univ_of_subsingleton (0 : Fin 1)

theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P m).x q thr) := by
  unfold u₀
  iintro Hu
  ihave H := (ownU_split _ _) $$ Hu
  icases H with ⟨HH, HP⟩
  imod (Pipeline.fund_ghost (Pipeline.pin (pcfgs (F := F)) adm) EP pinj) $$ HP with ⟨Hg, Ht⟩
  imodintro
  isplitl [HH]; · iexact HH
  isplitl
  · rw [bigSep_sep']
    isplitl [Hg]
    · rw [← bigSep_one fun p d => Pipeline.cellsGhost (Pipeline.pin (pcfgs (F := F)) adm) EP p d]; iexact Hg
    · rw [← bigSep_one fun p d => Pipeline.toksInit (Pipeline.pin (pcfgs (F := F)) adm) EP p d]; iexact Ht
  · rw [show (bigSep Finset.univ fun thr : Thread nD τ => bigSep Finset.univ fun q : Fin 1 => (P (F := F) m).x q thr) = (iprop(emp) : sProp 𝕄) from
      (bigSep_congr fun _ _ => bigSep_emp_const _).trans (bigSep_emp_const _)]
    iempintro

/-! ## @main on the TensorCore -/

abbrev bA0 : DevRef τ sig := Proc.devRef .tc (main_arg0 : Ref sig .tc)
abbrev bA1 : DevRef τ sig := Proc.devRef .tc (main_arg1 : Ref sig .tc)
abbrev bX : DevRef τ sig := Proc.devRef .tc (main_v0 : Ref sig .tc)
abbrev bL : DevRef τ sig := Proc.devRef .tc (main_v1 : Ref sig .tc)
abbrev bP : DevRef τ sig := Proc.devRef .tc (main_v2 : Ref sig .tc)
abbrev bF0 : DevRef τ sig := Proc.devRef .tc (main_v3_0 : Ref sig .tc)
abbrev bF1 : DevRef τ sig := Proc.devRef .tc (main_v3_1 : Ref sig .tc)
abbrev bR0 : DevRef τ sig := Proc.devRef .tc (main_v4 : Ref sig .tc)
abbrev bR1 : DevRef τ sig := Proc.devRef .tc (main_v5 : Ref sig .tc)

abbrev opX : HloOp τ sig (Elt F) := StableHlo.unary main_arg0 main_v0 ((transpose S100000x128 [1, 0] · transposes_S128x100000_S100000x128_1_0) : (⟨S128x100000, .f32⟩ : BufTy).Contents (Elt F) → (⟨S100000x128, .f32⟩ : BufTy).Contents (Elt F))
abbrev opL : HloOp τ sig (Elt F) := StableHlo.reshape main_arg1 main_v1 (rfl : (.i32 : EltTy) = .i32) shapeCasts_S128x1_S128
abbrev opR0 : HloOp τ sig (Elt F) := StableHlo.reshape main_v3_0 main_v4 (rfl : (.f32 : EltTy) = .f32) shapeCasts_S1x128_S128x1
abbrev opR1 : HloOp τ sig (Elt F) := StableHlo.reshape main_v3_1 main_v5 (rfl : (.i32 : EltTy) = .i32) shapeCasts_S1x128_S128x1

/-- The TensorCore's arrays. -/
abbrev S9 : Finset (DevRef τ sig) := {bA0, bA1, bX, bL, bP, bF0, bF1, bR0, bR1}

theorem held_S9 (d : Dev nD) (V : Valuation τ sig (Elt F)) :
    (held (SparseCore.T d) S9 V : sProp 𝕄)
      = iprop(((SparseCore.T d).loc main_arg0 ↦{fullShare} V bA0) ∗ ((SparseCore.T d).loc main_arg1 ↦{fullShare} V bA1)
          ∗ (xLoc d ↦{fullShare} V bX) ∗ (aLoc d ↦{fullShare} V bL) ∗ (oLoc d ↦{fullShare} V bP)
          ∗ ((SparseCore.T d).loc main_v3_0 ↦{fullShare} V bF0) ∗ ((SparseCore.T d).loc main_v3_1 ↦{fullShare} V bF1)
          ∗ ((SparseCore.T d).loc main_v4 ↦{fullShare} V bR0) ∗ ((SparseCore.T d).loc main_v5 ↦{fullShare} V bR1)) := by
  unfold held S9
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The launch valuation, and the valuations after the two operations before the call and after the calls. -/
def V0 (d : Dev nD) : Valuation τ sig (Elt F) := fun b => m (d, b)
def V2 (d : Dev nD) : Valuation τ sig (Elt F) := (opL (F := F)).result ((opX (F := F)).result (V0 m d))
def V3 (d : Dev nD) : Valuation τ sig (Elt F) :=
  Function.update (Function.update (Function.update (V2 m d) bP (tP m d)) bF0 (finLp (tP m d))) bF1 (finMd (tP m d))
def V5 (d : Dev nD) : Valuation τ sig (Elt F) := (opR1 (F := F)).result ((opR0 (F := F)).result (V3 m d))

theorem unscoped_held (d : Dev nD) : (unscopedBufs d (fun b => m ((SparseCore.T d).loc b)) : sProp 𝕄) = held (SparseCore.T d) S9 (V0 m d) := by
  rw [held_S9]
  unfold unscopedBufs
  rw [show (Finset.univ.filter fun b : Ref sig .tc => ¬ b.isScoped)
      = {main_arg0, main_arg1, main_v0, main_v1, main_v2, main_v3_0, main_v3_1, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  rfl

theorem V2_keeps (d : Dev nD) (b : DevRef τ sig) (h0 : b ∉ ({bX} : Finset (DevRef τ sig))) (h1 : b ∉ ({bL} : Finset (DevRef τ sig))) :
    V2 m d b = m (d, b) := by
  unfold V2; rw [(opL (F := F)).result_of_not_mem _ h1, (opX (F := F)).result_of_not_mem _ h0]; rfl
theorem V2_x (d : Dev nD) : V2 m d bX = tX m d := by
  unfold V2
  rw [(opL (F := F)).result_of_not_mem _ (show bX ∉ ({bL} : Finset (DevRef τ sig)) by decide)]
  exact StableHlo.unary_result _ _ _ _ _ _
theorem V2_l (d : Dev nD) : V2 m d bL = tA m d := by
  unfold V2
  refine (StableHlo.reshape_result _ _ _ _ _ _ _).trans ?_
  rw [(opX (F := F)).result_of_not_mem _ (show bA1 ∉ ({bX} : Finset (DevRef τ sig)) by decide)]
  rfl
theorem V3_keeps (d : Dev nD) (b : DevRef τ sig) (h0 : b ≠ bP) (h1 : b ≠ bF0) (h2 : b ≠ bF1) : V3 m d b = V2 m d b := by
  unfold V3; rw [Function.update_of_ne h2, Function.update_of_ne h1, Function.update_of_ne h0]
theorem V3_p (d : Dev nD) : V3 m d bP = tP m d := by
  unfold V3; rw [Function.update_of_ne (by decide), Function.update_of_ne (by decide), Function.update_self]
theorem V3_f0 (d : Dev nD) : V3 m d bF0 = finLp (tP m d) := by
  unfold V3; rw [Function.update_of_ne (by decide), Function.update_self]
theorem V3_f1 (d : Dev nD) : V3 m d bF1 = finMd (tP m d) := by
  unfold V3; rw [Function.update_self]
theorem V5_keeps (d : Dev nD) (b : DevRef τ sig) (h0 : b ∉ ({bR0} : Finset (DevRef τ sig))) (h1 : b ∉ ({bR1} : Finset (DevRef τ sig))) :
    V5 m d b = V3 m d b := by
  unfold V5; rw [(opR1 (F := F)).result_of_not_mem _ h1, (opR0 (F := F)).result_of_not_mem _ h0]
theorem V5_r0 (d : Dev nD) : V5 m d bR0 = res0 m d := by
  unfold V5
  rw [(opR1 (F := F)).result_of_not_mem _ (show bR0 ∉ ({bR1} : Finset (DevRef τ sig)) by decide)]
  refine (StableHlo.reshape_result _ _ _ _ _ _ _).trans ?_
  rw [V3_f0]; rfl
theorem V5_r1 (d : Dev nD) : V5 m d bR1 = res1 m d := by
  unfold V5
  refine (StableHlo.reshape_result _ _ _ _ _ _ _).trans ?_
  rw [(opR0 (F := F)).result_of_not_mem _ (show bF1 ∉ ({bR0} : Finset (DevRef τ sig)) by decide), V3_f1]; rfl

theorem hX : (opX (F := F)).bufs ⊆ S9 := show ({bA0, bX} : Finset (DevRef τ sig)) ⊆ S9 by decide
theorem hL : (opL (F := F)).bufs ⊆ S9 := show ({bA1, bL} : Finset (DevRef τ sig)) ⊆ S9 by decide
theorem hR0 : (opR0 (F := F)).bufs ⊆ S9 := show ({bF0, bR0} : Finset (DevRef τ sig)) ⊆ S9 by decide
theorem hR1 : (opR1 (F := F)).bufs ⊆ S9 := show ({bF1, bR1} : Finset (DevRef τ sig)) ⊆ S9 by decide

/-- What @main leaves the claims: the inputs at their launch contents, the two results. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_v4 ↦{fullShare} res0 m d) ∗ ((SparseCore.T d).loc main_v5 ↦{fullShare} res1 m d))

theorem held_fin (d : Dev nD) : (held (SparseCore.T d) S9 (V5 m d) : sProp 𝕄) ⊢ FIN m d := by
  rw [held_S9, V5_r0, V5_r1, V5_keeps m d bA0 (by decide) (by decide), V5_keeps m d bA1 (by decide) (by decide),
    V3_keeps m d bA0 (by decide) (by decide) (by decide), V3_keeps m d bA1 (by decide) (by decide) (by decide),
    V2_keeps m d bA0 (by decide) (by decide), V2_keeps m d bA1 (by decide) (by decide)]
  iintro ⟨H0, H1, -, -, -, -, -, H4, H5⟩
  isplitl [H0]; · iexact H0
  isplitl [H1]; · iexact H1
  isplitl [H4]; · iexact H4
  iexact H5

theorem Otc_one (d : Dev nD) : (K (F := F)).Otc d 1 = 0 := by
  unfold SparseCore.Cfg.Otc; rw [Fin.sum_univ_one]; rfl

/-- After the call the TensorCore owes nothing; what it gives up for the finishing call comes back. -/
theorem tcSt_one (d : Dev nD) : ((K (F := F)).tcSt EH d 1 : sProp 𝕄) ⊢ iprop(finOw (F := F) d ∗ (finOw (F := F) d -∗ (K (F := F)).tcSt EH d 1)) := by
  unfold SparseCore.Cfg.tcSt finOw
  rw [Otc_one]
  iintro ⟨HO, Hr⟩
  isplitl [HO]; · iexact HO
  iintro HO
  isplitl [HO]; · iexact HO
  iexact Hr

variable [∀ e, Nonempty (Elt F e)]

/-- The finishing call over the pipeline's definitions. -/
def finCall : Prog (TpuEff nD τ sig (Elt F) (Pipeline.Sig Λ₀ (Fin 1) fun p => (pcfgs (F := F) p).Adm) .tc) PUnit :=
  .op (.customCall (Pipeline.entry 0) ()) fun x => .ret x

/-- The finishing call, over the launch's definitions. -/
theorem wp_finishing (d : Dev nD) (X : Vec F S4x32x128 .f32) (Y1 : Vec F S1x128 .f32) (Y2 : Vec F S1x128 .i32) (Q : PUnit → sProp 𝕄) :
    iprop((iprop(boundary (SparseCore.T d) ∗ fin3 d X (finLp X) (finMd X) ∗ finOw (F := F) d) -∗ Q ⟨⟩)
        ∗ boundary (SparseCore.T d) ∗ (fin3 d X Y1 Y2 ∗ finOw (F := F) d) ∗ levAts (K (F := F)).L (K (F := F)).lev ∗ G (F := F) d)
      ⊢ wp frame (wpE ((K (F := F)).defs (D (F := F))) 𝒱 (SparseCore.T d) none) Set.univ
          (Prog.lift (.customCall (SparseCore.inner (Pipeline.entry 0)) ())) Q := by
  have hk : iprop((iprop(boundary (SparseCore.T d) ∗ fin3 d X (finLp X) (finMd X) ∗ finOw (F := F) d) -∗ Q ⟨⟩)
        ∗ boundary (SparseCore.T d) ∗ (fin3 d X Y1 Y2 ∗ finOw (F := F) d) ∗ levAts (K (F := F)).L (K (F := F)).lev ∗ G (F := F) d)
      ⊢ iprop((iprop(boundary (SparseCore.T d) ∗ fin3 d X (finLp X) (finMd X) ∗ finOw (F := F) d)
          -∗ wp frame (wpE (D (F := F)) 𝒱 (SparseCore.T d) none) Set.univ (.ret ⟨⟩) Q)
        ∗ boundary (SparseCore.T d) ∗ (fin3 d X Y1 Y2 ∗ finOw (F := F) d) ∗ levAts (K (F := F)).L (K (F := F)).lev ∗ G (F := F) d) := by
    iintro ⟨Hk, Hr⟩
    isplitl [Hk]
    · iintro H; rw [wp_ret]; imodintro; iapply Hk; iexact H
    iexact Hr
  have hr := Pipeline.RegionSeg.wp (pcfgs (F := F)) adm (finDats (fun _ => X) (fun _ => Y1) (fun _ => Y2)) none pinj EP defs₀ 𝒱₀
    (K (F := F)).L (K (F := F)).lev (finReg (fun _ => X) (fun _ => Y1) (fun _ => Y2)) d none (fun _ h => nomatch h) (fun x => .ret x) Q
  have hl := (K (F := F)).wp_liftProg (Name := ℕ) (U := UU) (D (F := F)) 𝒱 (SparseCore.T d) Set.univ none (finCall (F := F)) Q
  exact hk.trans (hr.trans hl)

theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, HG⟩
  -- the transpose and the labels' reshape
  iapply (wp_hlo_within 𝒱 (SparseCore.T d) none Set.univ (op := opX) (S := S9) hX (V := V0 m d)) $$ [Hb Hheld]
  · isplitl [Hb] <;> iassumption
  iintro ⟨Hb, Hheld⟩
  rw [wp_ret]; imodintro
  iapply (wp_hlo_within 𝒱 (SparseCore.T d) none Set.univ (op := opL) (S := S9) hL (V := (opX (F := F)).result (V0 m d))) $$ [Hb Hheld]
  · isplitl [Hb] <;> iassumption
  iintro ⟨Hb, Hheld⟩
  rw [wp_ret]; imodintro
  ihave Hheld := (Entails.of_eq (show (held (SparseCore.T d) S9 ((opL (F := F)).result ((opX (F := F)).result (V0 m d))) : sProp 𝕄)
    = held (SparseCore.T d) S9 (V2 m d) from rfl)) $$ Hheld
  ihave Hh := (Entails.of_eq (held_S9 (F := F) d (V2 m d))) $$ Hheld
  rw [V2_x, V2_l, V2_keeps m d bP (by decide) (by decide)]
  icases Hh with ⟨H0, H1, Hx, Ha, Ho, Hf0, Hf1, Hr0, Hr1⟩
  -- the tiles' call
  ihave Hs := (cores_split d (tX m d) (tA m d) (m (oLoc d)) (tP m d)) $$ [Hx Ha Ho]
  · isplitl [Hx]; · iexact Hx
    isplitl [Ha]; · iexact Ha
    iexact Ho
  icases Hs with ⟨Hcs, Hback⟩
  iapply ((K (F := F)).wp_run (D (F := F)) 𝒱 (EH := EH) (P := P m) κ d 0) $$ [Hst Hcs Hback Hb H0 H1 Hf0 Hf1 Hr0 Hr1 Hts HG]
  isplitr; · iexact Hctx
  isplitl [Hst]; · iexact Hst
  isplitl [Hcs]
  · iapply (Entails.of_eq (bigSep_cores (F := F) (fun c => coreRes d (tX m d) (tA m d) c (m (oLoc d)))).symm); iexact Hcs
  iintro ⟨Hst, Hdn⟩
  ihave Hdn := (Entails.of_eq ((show (bigSep Finset.univ fun c : Fin ((K (F := F)).nCore 0) => (P m).dn 0 d c : sProp 𝕄) = _ from rfl).trans
    (bigSep_cores (F := F) (fun c => coreRes d (tX m d) (tA m d) c (tP m d))))) $$ Hdn
  ihave Hs := Hback $$ Hdn
  icases Hs with ⟨Hx, Ha, Ho⟩
  -- the finishing call
  ihave Hst := (Entails.of_eq (show ((K (F := F)).tcSt EH d ((0 : Fin 1).val + 1) : sProp 𝕄) = (K (F := F)).tcSt EH d 1 from rfl)) $$ Hst
  ihave Hst := (tcSt_one d) $$ Hst
  icases Hst with ⟨HO, Hst⟩
  ihave #Hlev := (SparseCore.Cfg.ctx_levAts κ) $$ Hctx
  iapply (wp_finishing d (tP m d) (V2 m d bF0) (V2 m d bF1)) $$ [Hst Hb H0 H1 Hx Ha Ho Hf0 Hf1 Hr0 Hr1 Hts HG HO]
  isplitr [Hb Ho Hf0 Hf1 HO HG]; swap
  · isplitl [Hb]; · iexact Hb
    isplitl [Ho Hf0 Hf1 HO]
    · isplitr [HO]; swap; · iexact HO
      unfold fin3
      isplitl [Ho]; · iexact Ho
      isplitl [Hf0]; · iexact Hf0
      iexact Hf1
    isplitr; · iexact Hlev
    iexact HG
  iintro ⟨Hb, H3, HO⟩
  unfold fin3
  icases H3 with ⟨Ho, Hf0, Hf1⟩
  ihave Hst := Hst $$ HO
  -- the results' reshapes
  iapply (wp_hlo_within 𝒱 (SparseCore.T d) none Set.univ (op := opR0) (S := S9) hR0 (V := V3 m d)) $$ [Hb H0 H1 Hx Ha Ho Hf0 Hf1 Hr0 Hr1]
  · isplitl [Hb]; · iexact Hb
    rw [held_S9, V3_p, V3_f0, V3_f1, V3_keeps m d bA0 (by decide) (by decide) (by decide), V3_keeps m d bA1 (by decide) (by decide) (by decide),
      V3_keeps m d bX (by decide) (by decide) (by decide), V3_keeps m d bL (by decide) (by decide) (by decide),
      V3_keeps m d bR0 (by decide) (by decide) (by decide), V3_keeps m d bR1 (by decide) (by decide) (by decide), V2_x, V2_l]
    isplitl [H0]; · iexact H0
    isplitl [H1]; · iexact H1
    isplitl [Hx]; · iexact Hx
    isplitl [Ha]; · iexact Ha
    isplitl [Ho]; · iexact Ho
    isplitl [Hf0]; · iexact Hf0
    isplitl [Hf1]; · iexact Hf1
    isplitl [Hr0]; · iexact Hr0
    iexact Hr1
  iintro ⟨Hb, Hheld⟩
  rw [wp_ret]; imodintro
  iapply (wp_hlo_within 𝒱 (SparseCore.T d) none Set.univ (op := opR1) (S := S9) hR1 (V := (opR0 (F := F)).result (V3 m d))) $$ [Hb Hheld]
  · isplitl [Hb] <;> iassumption
  iintro ⟨Hb, Hheld⟩
  ihave Hheld := (Entails.of_eq (show (held (SparseCore.T d) S9 ((opR1 (F := F)).result ((opR0 (F := F)).result (V3 m d))) : sProp 𝕄)
    = held (SparseCore.T d) S9 (V5 m d) from rfl)) $$ Hheld
  ihave Hf := (held_fin m d) $$ Hheld
  rw [wp_ret]; imodintro; imodintro
  isplitl [Hst]; · iexact Hst
  isplitl [Hf]; · iexact Hf
  isplitl [Hb] <;> iassumption

/-- What the claims read of device `d`'s final state. -/
def fq (d : Dev nD) (s' : Phys nD τ sig (Elt F)) : Prop :=
  s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_v4) = res0 m d ∧ s'.mem.mem ((SparseCore.T d).loc main_v5) = res1 m d

/-- One array of a final state. -/
theorem read_end {ℓ : Loc nD τ sig} (f : Buf (Elt F) ℓ) (s' : Phys nD τ sig (Elt F)) :
    iprop(SI s' ∗ ℓ ↦{fullShare} f) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr; · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨H0, H1, H4, H5⟩, HSI⟩
  ihave H := (read_end _ s') $$ [HSI H0]
  · isplitl [HSI] <;> iassumption
  icases H with ⟨%h0, HSI⟩
  ihave H := (read_end _ s') $$ [HSI H1]
  · isplitl [HSI] <;> iassumption
  icases H with ⟨%h1, HSI⟩
  ihave H := (read_end _ s') $$ [HSI H4]
  · isplitl [HSI] <;> iassumption
  icases H with ⟨%h4, HSI⟩
  ihave H := (read_end _ s') $$ [HSI H5]
  · isplitl [HSI] <;> iassumption
  icases H with ⟨%h5, HSI⟩
  ipureintro; exact ⟨h0, h1, h4, h5⟩

/-! ## The program's run -/

def QC : PUnit × MemSt nD τ sig (Elt F) → Prop := fun r =>
  (∀ d : Dev nD, r.2.mem ((SparseCore.T d).loc main_arg0) = m ((SparseCore.T d).loc main_arg0)
    ∧ r.2.mem ((SparseCore.T d).loc main_arg1) = m ((SparseCore.T d).loc main_arg1)
    ∧ r.2.mem ((SparseCore.T d).loc main_v4) = res0 m d ∧ r.2.mem ((SparseCore.T d).loc main_v5) = res1 m d)
  ∧ r.2.sem = fun _ => 0

theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h hz => ⟨h, hz⟩)

end Cert.Proof.Tile

end
-- ==== Proof.Ref.lean ====
/-
  The reference's run: its operations in order, each buffer's contents at the end, its two results as functions of the
  arguments (`lpR`, `mdR`), the arguments as they were.
-/
module

public import proofs.«01_k».proof.Proof.Gen.ReferenceIdeal
public import Idealize.ShloMosaic.Lib.StableHlo.Run
public import Idealize.ShloMosaic.Lib.Quiescent
public import Idealize.ShloMosaic.Init

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-! ## What each of the three calls computes -/

/-- A row's largest element, over the row. -/
def topR (x : Vec F S128x100000 .f32) : Vec F S128x100000 .f32 :=
  broadcastInDim S128x100000 ![0, 1] bcast_S128x1_S128x100000_0_1
    (broadcastInDim S128x1 ![0] bcast_S128_S128x1_0
      (maximumf (broadcastInDim S128 ![] bcast_S_S128 (constant S_ .f32 0xFF800000#32))
        (Host.reduce FloatOps.maximumf x (constant S_ .f32 0xFF800000#32) reducesTo_S128x100000_S128_d1 h_S_)))

/-- The logarithm of a row's sum of exponentials, over the row. -/
def logR (y : Vec F S128x100000 .f32) : Vec F S128x100000 .f32 :=
  broadcastInDim S128x100000 ![0, 1] bcast_S128x1_S128x100000_0_1
    (Host.log (broadcastInDim S128x1 ![0] bcast_S128_S128x1_0
      (Host.reduceAdd (Host.exp y) (constant S_ .f32 0x00000000#32) reducesTo_S128x100000_S128_d1 h_S_)))

/-- The log-softmax of a row. -/
def softR (x : Vec F S128x100000 .f32) : Vec F S128x100000 .f32 := subf (subf x (topR x)) (logR (subf x (topR x)))

/-- The indices a row is read at. -/
def ixR (a : Vec F S128x1 .i32) : Vec F S128x1x1 .i32 :=
  shapeCast S128x1x1 (select (cmpi .slt a (broadcastInDim S128x1 ![] bcast_S_S128x1 (constantI S_ 32 0#32)))
    (addi a (broadcastInDim S128x1 ![] bcast_S_S128x1 (constantI S_ 32 100000#32))) a) shapeCasts_S128x1_S128x1x1

/-- Which of them are in range. -/
def okR (i : Vec F S128x1x1 .i32) : IVec S128x1 1 :=
  Host.reduce IntOp.andi
    (andi (cmpi .sge i (broadcastInDim S128x1x1 ![] bcast_S_S128x1x1 (constantI S_ 32 0#32)))
      (cmpi .sle i (broadcastInDim S128x1x1 ![0, 1, 2] bcast_S1x1x1_S128x1x1_0_1_2
        (broadcastInDim S1x1x1 ![2] bcast_S1_S1x1x1_2 (constantI S1 32 99999#32)))))
    (constantI S_ 1 1#1) reducesTo_S128x1x1_S128x1_d2 h_S_

/-- The elements read. -/
def takeR (y : Vec F S128x100000 .f32) (a : Vec F S128x1 .i32) : Vec F S128x1 .f32 :=
  select (okR (F := F) (ixR (F := F) a)) (Host.gather gather_S128x100000_S128x1x1_S128x1_n_1_0_0_1_2_11 y (ixR (F := F) a))
    (broadcastInDim S128x1 ![] bcast_S_S128x1 (constant S_ .f32 0x7FC00000#32))

/-- The first result: the log-probabilities. -/
def lpR (x : Vec F S128x100000 .f32) (a : Vec F S128x1 .i32) : Vec F S128x1 .f32 :=
  broadcastInDim S128x1 ![0] bcast_S128_S128x1_0
    (Host.reduceAdd (takeR (softR x) a) (constant S_ .f32 0x00000000#32) reducesTo_S128x1_S128_d1 h_S_)

/-- The second result: the modes. -/
def mdR (x : Vec F S128x100000 .f32) : Vec F S128x1 .i32 :=
  broadcastInDim S128x1 ![0] bcast_S128_S128x1_0 (fun j =>
    (Host.argReduce reducer_argmax_f32_i32 x (iotaInDim S128x100000 32 1) (constant S_ .f32 0xFF800000#32) (constantI S_ 32 0#32)
      reducesTo_S128x100000_S128_d1 h_S_ j).2)

/-! ## The run -/

/-- The log-softmax, -/
abbrev opsS : List (HloOp τ sig (Elt F)) :=
  [ nullary main_call0_cst (constant S_ .f32 0xFF800000#32),
    binary main_arg0 main_call0_cst main_call0_v0 (fun x v => Host.reduce FloatOps.maximumf x v reducesTo_S128x100000_S128_d1 h_S_),
    nullary main_call0_cst_0 (constant S_ .f32 0xFF800000#32),
    unary main_call0_cst_0 main_call0_v1 (broadcastInDim S128 ![] bcast_S_S128),
    binary main_call0_v1 main_call0_v0 main_call0_v2 maximumf,
    unary main_call0_v2 main_call0_v3 (broadcastInDim S128x1 ![0] bcast_S128_S128x1_0),
    unary main_call0_v3 main_call0_v4 (broadcastInDim S128x100000 ![0, 1] bcast_S128x1_S128x100000_0_1),
    binary main_arg0 main_call0_v4 main_call0_v5 subf,
    unary main_call0_v5 main_call0_v6 Host.exp,
    nullary main_call0_cst_1 (constant S_ .f32 0x00000000#32),
    binary main_call0_v6 main_call0_cst_1 main_call0_v7 (fun x v => Host.reduceAdd x v reducesTo_S128x100000_S128_d1 h_S_),
    unary main_call0_v7 main_call0_v8 (broadcastInDim S128x1 ![0] bcast_S128_S128x1_0),
    unary main_call0_v8 main_call0_v9 Host.log,
    unary main_call0_v9 main_call0_v10 (broadcastInDim S128x100000 ![0, 1] bcast_S128x1_S128x100000_0_1),
    binary main_call0_v5 main_call0_v10 main_v0 subf ]

/-- the elements taken of it, -/
abbrev opsT : List (HloOp τ sig (Elt F)) :=
  [ nullary main_call1_c (constantI S_ 32 0#32),
    unary main_call1_c main_call1_v0 (broadcastInDim S128x1 ![] bcast_S_S128x1),
    binary main_arg1 main_call1_v0 main_call1_v1 (cmpi .slt),
    nullary main_call1_c_0 (constantI S_ 32 100000#32),
    unary main_call1_c_0 main_call1_v2 (broadcastInDim S128x1 ![] bcast_S_S128x1),
    binary main_arg1 main_call1_v2 main_call1_v3 addi,
    ternary main_call1_v1 main_call1_v3 main_arg1 main_call1_v4 select,
    reshape main_call1_v4 main_call1_v5 rfl shapeCasts_S128x1_S128x1x1,
    nullary main_call1_c_1 (constantI S1 32 99999#32),
    nullary main_call1_c_2 (constantI S_ 32 0#32),
    unary main_call1_c_2 main_call1_v6 (broadcastInDim S128x1x1 ![] bcast_S_S128x1x1),
    binary main_call1_v5 main_call1_v6 main_call1_v7 (cmpi .sge),
    unary main_call1_c_1 main_call1_v8 (broadcastInDim S1x1x1 ![2] bcast_S1_S1x1x1_2),
    unary main_call1_v8 main_call1_v9 (broadcastInDim S128x1x1 ![0, 1, 2] bcast_S1x1x1_S128x1x1_0_1_2),
    binary main_call1_v5 main_call1_v9 main_call1_v10 (cmpi .sle),
    binary main_call1_v7 main_call1_v10 main_call1_v11 andi,
    nullary main_call1_c_3 (constantI S_ 1 1#1),
    binary main_call1_v11 main_call1_c_3 main_call1_v12 (fun x v => Host.reduce IntOp.andi x v reducesTo_S128x1x1_S128x1_d2 h_S_),
    binary main_v0 main_call1_v5 main_call1_v13 (fun x i => Host.gather gather_S128x100000_S128x1x1_S128x1_n_1_0_0_1_2_11 x i),
    nullary main_call1_cst (constant S_ .f32 0x7FC00000#32),
    unary main_call1_cst main_call1_v14 (broadcastInDim S128x1 ![] bcast_S_S128x1),
    ternary main_call1_v12 main_call1_v13 main_call1_v14 main_v1 select ]

/-- their sums, -/
abbrev opsA : List (HloOp τ sig (Elt F)) :=
  [ nullary main_cst (constant S_ .f32 0x00000000#32),
    binary main_v1 main_cst main_v2 (fun x v => Host.reduceAdd x v reducesTo_S128x1_S128_d1 h_S_),
    unary main_v2 main_v3 (broadcastInDim S128x1 ![0] bcast_S128_S128x1_0) ]

/-- the modes, -/
abbrev opsM : List (HloOp τ sig (Elt F)) :=
  [ nullary main_call2_v0 (iotaInDim S128x100000 32 1),
    nullary main_call2_cst (constant S_ .f32 0xFF800000#32),
    nullary main_call2_c (constantI S_ 32 0#32),
    quaternary main_arg0 main_call2_v0 main_call2_cst main_call2_c main_call2_v1_0
      (fun x y u v j => (Host.argReduce reducer_argmax_f32_i32 x y u v reducesTo_S128x100000_S128_d1 h_S_ j).1),
    quaternary main_arg0 main_call2_v0 main_call2_cst main_call2_c main_v4
      (fun x y u v j => (Host.argReduce reducer_argmax_f32_i32 x y u v reducesTo_S128x100000_S128_d1 h_S_ j).2) ]

/-- and their shape. -/
abbrev opsE : List (HloOp τ sig (Elt F)) :=
  [ unary main_v4 main_v5 (broadcastInDim S128x1 ![0] bcast_S128_S128x1_0) ]

/-- The whole program. -/
abbrev ops : List (HloOp τ sig (Elt F)) := opsS ++ (opsT ++ (opsA ++ (opsM ++ opsE)))

theorem soft_eq : fn_log_softmax.body (F := F) (.of main_arg0) main_call0 = seq opsS := by
  simp only [fn_log_softmax.body, opsS, seq, bind_assoc, pure_bind, TRef.nullary, TRef.unary, TRef.binary, TRef.ternary, TRef.quaternary,
    TRef.reshape, TRef.toBuf, TRef.ofBuf, cast_eq]
  rfl

theorem take_eq : fn_take_along_axis.body (F := F) (.of main_v0) (.of main_arg1) main_call1 = seq opsT := by
  simp only [fn_take_along_axis.body, opsT, seq, bind_assoc, pure_bind, TRef.nullary, TRef.unary, TRef.binary, TRef.ternary, TRef.quaternary,
    TRef.reshape, TRef.toBuf, TRef.ofBuf, cast_eq]
  rfl

theorem mode_eq : fn_argmax.body (F := F) (.of main_arg0) main_call2 = seq opsM := by
  simp only [fn_argmax.body, opsM, seq, bind_assoc, pure_bind, TRef.nullary, TRef.unary, TRef.binary, TRef.ternary, TRef.quaternary,
    TRef.reshape, TRef.toBuf, TRef.ofBuf, cast_eq]
  rfl

theorem main_eq (c : Dev nD) : main (F := F) c = seq ops := by
  rw [seq_append, seq_append, seq_append, seq_append, ← soft_eq, ← take_eq, ← mode_eq]
  simp only [main, seq, bind_assoc, pure_bind]
  rfl

theorem lp_eq (V : Valuation τ sig (Elt F)) :
    after ops V (main_v3 : DevRef τ sig) = lpR (V (main_arg0 : DevRef τ sig)) (V (main_arg1 : DevRef τ sig)) := by
  simp only [ops, opsS, opsT, opsA, opsM, opsE, List.cons_append, List.nil_append]
  after_results_simp
  rfl

theorem md_eq (V : Valuation τ sig (Elt F)) :
    after ops V (main_v5 : DevRef τ sig) = mdR (V (main_arg0 : DevRef τ sig)) := by
  simp only [ops, opsS, opsT, opsA, opsM, opsE, List.cons_append, List.nil_append]
  after_results_simp
  rfl

theorem arg0_eq (V : Valuation τ sig (Elt F)) : after ops V (main_arg0 : DevRef τ sig) = V (main_arg0 : DevRef τ sig) := by
  simp only [ops, opsS, opsT, opsA, opsM, opsE, List.cons_append, List.nil_append, after_cons, after_nil]
  rfl

theorem arg1_eq (V : Valuation τ sig (Elt F)) : after ops V (main_arg1 : DevRef τ sig) = V (main_arg1 : DevRef τ sig) := by
  simp only [ops, opsS, opsT, opsA, opsM, opsE, List.cons_append, List.nil_append, after_cons, after_nil]
  rfl

theorem noRefs : (Finset.univ.filter fun b : Ref sig .tc => b.isScoped) = ∅ := by decide
theorem noSems : (Finset.univ.filter fun sm : SemLoc sig => sm.isScoped .tc) = ∅ := by decide

theorem sub_tc : (ops (F := F)).Forall fun op => op.bufs ⊆ tcRefs τ sig := by
  simp only [ops, opsS, opsT, opsA, opsM, opsE, List.cons_append, List.nil_append, List.forall_cons, List.Forall, and_true]
  exact ⟨nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., reshape_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., nullary_bufs_sub .., unary_bufs_sub ..,
    ternary_bufs_sub .., nullary_bufs_sub .., binary_bufs_sub .., unary_bufs_sub .., nullary_bufs_sub .., nullary_bufs_sub ..,
    nullary_bufs_sub .., quaternary_bufs_sub .., quaternary_bufs_sub .., unary_bufs_sub ..⟩

/-- The run: the results at the arguments' functions, the arguments unchanged, no semaphore counter raised. -/
theorem run_main (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD,
        r.2.mem ((c.tc : Thread nD τ).loc main_v3) = lpR (m ((c.tc : Thread nD τ).loc main_arg0)) (m ((c.tc : Thread nD τ).loc main_arg1))
        ∧ r.2.mem ((c.tc : Thread nD τ).loc main_v5) = mdR (m ((c.tc : Thread nD τ).loc main_arg0))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run _ _ _).mono (fun r h => ⟨fun c => ⟨(h c main_v3).trans (lp_eq _), (h c main_v5).trans (md_eq _),
      (h c main_arg0).trans (arg0_eq _), (h c main_arg1).trans (arg1_eq _)⟩, sem_eq_zero_of_no_sems (by decide) r.2⟩)
    (run_seq noRefs noSems defs main (fun _ => ops) main_eq (fun _ => sub_tc) m ρ)

end Cert.Proof.Ref

end
-- ==== Proof.Frames.lean ====
/-
  The frames, from the two runs. The kernel's run is over any float values: the program as written and its idealization
  are one text, so the run of the one is the run of the other.
-/
module

public import proofs.«01_k».proof.Defs
public import proofs.«01_k».proof.Proof.Gen.Kernel
public import proofs.«01_k».proof.Proof.Launch
public import proofs.«01_k».proof.Proof.Ref

@[expose] public section

noncomputable section

namespace Cert.Proof

open Idealize.ShloMosaic Idealize.SL.Sem

/-- What a frame says, over any float values. -/
theorem frame_any {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (Cert.KernelIdeal.threads (F := F)) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run (Cert.KernelIdeal.defs (F := F)) _ _).mono (fun _ h => ⟨fun c => ⟨(h.1 c).1, (h.1 c).2.1⟩, h.2⟩) (Tile.run_main (F := F) m ρ)

section
attribute [local instance] Cert.Kernel.Gen.facts Cert.KernelIdeal.Gen.facts

/-- The two programs' kernels are one table, label by label, -/
theorem defs₀_same : Cert.Kernel.defs₀ (F := Bits) = Cert.KernelIdeal.defs₀ (F := Bits) := by
  funext p ℓ a
  match p, ℓ with
  | .scVector _ _, 0 => rfl
  | .scVector _ _, 1 => rfl
  | .tc, 0 => rfl
  | .tc, 1 => rfl
  | .scScalar _, 0 => rfl
  | .scScalar _, 1 => rfl

/-- and so their definitions are the same. -/
theorem defs_same : Cert.Kernel.defs (F := Bits) = Cert.KernelIdeal.defs (F := Bits) := by
  unfold Cert.Kernel.defs
  rw [defs₀_same]
  rfl

end

theorem frame_kernel : Cert.quiescent_Kernel (hKernel := Cert.Kernel.Gen.facts) := fun m ρ _ => by
  rw [defs_same]
  exact frame_any (F := Bits) m ρ

theorem frame_ideal : Cert.quiescent_KernelIdeal (hKernelIdeal := Cert.KernelIdeal.Gen.facts) := fun m ρ _ => frame_any (F := Ideal) m ρ

theorem frame_ref : Cert.quiescent_ReferenceIdeal (hReferenceIdeal := Cert.ReferenceIdeal.Gen.facts) := fun m ρ _ =>
  (θ_run (Cert.ReferenceIdeal.defs (F := Ideal)) _ _).mono (fun _ h => ⟨fun c => (h.1 c).2.2, h.2⟩) (Ref.run_main (F := Ideal) m ρ)

end Cert.Proof

end
-- ==== Proof.Rows.lean ====
/-
  The rows that the tiles see, and what running over them in order finds: the largest value with the first row that
  holds it, and sums; then all tiles together; and the shift in a log-softmax. Over the extended reals, of one lane.
-/
module

public import Idealize.ShloMosaic.PureOps.Ideal
public import Mathlib.Algebra.BigOperators.Fin
public import Mathlib.Analysis.SpecialFunctions.Log.Basic

@[expose] public section

noncomputable section

namespace Cert.Proof.Rows

open Idealize.ShloMosaic

/-! ## Which rows -/

/-- The rows that tile `w` has seen before row `t` of its block `k`. -/
def seen (w k t : ℕ) : Finset ℕ :=
  (Finset.range 100000).filter fun r => r / 200 % 32 = w ∧ (r / 200 / 32 < k ∨ r / 200 / 32 = k ∧ r % 200 < t)

/-- All of tile `w`'s rows. -/
def tileRows (w : ℕ) : Finset ℕ := (Finset.range 100000).filter fun r => r / 200 % 32 = w

theorem mem_seen {w k t r : ℕ} :
    r ∈ seen w k t ↔ r < 100000 ∧ r / 200 % 32 = w ∧ (r / 200 / 32 < k ∨ r / 200 / 32 = k ∧ r % 200 < t) := by
  simp [seen]

theorem mem_tileRows {w r : ℕ} : r ∈ tileRows w ↔ r < 100000 ∧ r / 200 % 32 = w := by simp [tileRows]

theorem seen_lt {w k t q : ℕ} (hw : w < 32) (ht : t ≤ 200) (hq : q ∈ seen w k t) : q < 200 * (32 * k + w) + t := by
  rw [mem_seen] at hq; omega

theorem seen_succ {w k t : ℕ} (hw : w < 32) (ht : t < 200) (hn : 32 * k + w < 500) :
    seen w k (t + 1) = insert (200 * (32 * k + w) + t) (seen w k t) := by
  ext r
  rw [Finset.mem_insert, mem_seen, mem_seen]
  omega

theorem seen_block (w k : ℕ) : seen w k 200 = seen w (k + 1) 0 := by
  ext r
  rw [mem_seen, mem_seen]
  omega

theorem seen_zero (w : ℕ) : seen w 0 0 = ∅ := by
  ext r
  rw [mem_seen]
  simp

theorem seen_all {w k : ℕ} (hw : w < 32) (hk : k = if w < 20 then 16 else 15) : seen w k 0 = tileRows w := by
  ext r
  rw [mem_seen, mem_tileRows]
  split at hk <;> omega

/-! ## The largest value and the first row that holds it -/

/-- `m` is the largest of `N` and the values on `S`, and `n` the first row of `S` that holds it — or nothing in `S` is above `N`. -/
structure Best (N : EReal) (x : ℕ → EReal) (S : Finset ℕ) (m : EReal) (n : ℕ) : Prop where
  le : ∀ r ∈ S, x r ≤ m
  low : N ≤ m
  first : (m = N ∧ n = 0) ∨ (n ∈ S ∧ x n = m ∧ ∀ q ∈ S, q < n → x q < m)

theorem Best.empty (N : EReal) (x : ℕ → EReal) : Best N x ∅ N 0 := ⟨by simp, le_rfl, .inl ⟨rfl, rfl⟩⟩

theorem Best.step {N : EReal} {x : ℕ → EReal} {S : Finset ℕ} {m : EReal} {n r : ℕ} (h : Best N x S m n) (hr : ∀ q ∈ S, q < r) :
    Best N x (insert r S) (if m < x r then x r else m) (if m < x r then r else n) := by
  by_cases c : m < x r
  · rw [if_pos c, if_pos c]
    refine ⟨fun q hq => ?_, h.low.trans c.le, .inr ⟨Finset.mem_insert_self _ _, rfl, fun q hq hqr => ?_⟩⟩
    · rcases Finset.mem_insert.1 hq with rfl | hq
      exacts [le_rfl, (h.le q hq).trans c.le]
    · rcases Finset.mem_insert.1 hq with rfl | hq
      exacts [absurd hqr (lt_irrefl _), (h.le q hq).trans_lt c]
  · rw [if_neg c, if_neg c]
    refine ⟨fun q hq => ?_, h.low, h.first.imp id fun ⟨h1, h2, h3⟩ => ⟨Finset.mem_insert_of_mem h1, h2, fun q hq hqn => ?_⟩⟩
    · rcases Finset.mem_insert.1 hq with rfl | hq
      exacts [not_lt.1 c, h.le q hq]
    · rcases Finset.mem_insert.1 hq with rfl | hq
      exacts [absurd (hr n h1) (by omega), h3 q hq hqn]

/-- The first row that holds the largest value of all. -/
def First (x : ℕ → EReal) (r : ℕ) : Prop := r < 100000 ∧ (∀ q < 100000, x q ≤ x r) ∧ ∀ q < r, x q < x r

theorem First.unique {x : ℕ → EReal} {r r' : ℕ} (h : First x r) (h' : First x r') : r = r' := by
  rcases Nat.lt_trichotomy r r' with c | c | c
  · exact absurd (h'.2.2 r c) (not_lt.2 (h.2.1 r' h'.1))
  · exact c
  · exact absurd (h.2.2 r' c) (not_lt.2 (h'.2.1 r h.1))

theorem exists_first (x : ℕ → EReal) : ∃ r, First x r := by
  classical
  obtain ⟨p, hp, hmax⟩ := Finset.exists_max_image (Finset.range 100000) x ⟨0, by simp⟩
  have hex : ∃ r, r < 100000 ∧ x r = x p := ⟨p, Finset.mem_range.1 hp, rfl⟩
  obtain ⟨h1, h2⟩ := Nat.find_spec hex
  refine ⟨Nat.find hex, h1, fun q hq => ?_, fun q hq => ?_⟩
  · rw [h2]; exact hmax q (Finset.mem_range.2 hq)
  · rw [h2]
    refine lt_of_le_of_ne (hmax q (Finset.mem_range.2 (hq.trans h1))) fun e => ?_
    exact Nat.find_min hex hq ⟨hq.trans h1, e⟩

/-- All tiles together: the largest of their values is the largest of all, the first row that holds it is among the rows
    that the tiles with that value give, and none of these gives an earlier one. -/
theorem best_all {N : EReal} {x : ℕ → EReal} (hN : ∀ r < 100000, N ≤ x r) {m : Fin 32 → EReal} {n : Fin 32 → ℕ}
    (h : ∀ w : Fin 32, Best N x (tileRows w) (m w) (n w)) {M : EReal} (hle : ∀ w, m w ≤ M) (hex : ∃ w, m w = M) {r : ℕ} (hr : First x r) :
    M = x r ∧ (∃ w, m w = M ∧ n w = r) ∧ ∀ w, m w = M → r ≤ n w := by
  obtain ⟨r1, r2, r3⟩ := hr
  have hM : M = x r := by
    apply le_antisymm
    · obtain ⟨w, rfl⟩ := hex
      rcases (h w).first with ⟨h1, _⟩ | ⟨h1, h2, _⟩
      · rw [h1]; exact hN r r1
      · rw [← h2]; exact r2 _ (mem_tileRows.1 h1).1
    · exact ((h ⟨r / 200 % 32, Nat.mod_lt _ (by decide)⟩).le r (mem_tileRows.2 ⟨r1, rfl⟩)).trans (hle _)
  have hge : ∀ w, m w = M → r ≤ n w := by
    intro w hw
    by_contra c
    rcases (h w).first with ⟨h1, h2⟩ | ⟨h1, h2, _⟩
    · have := r3 0 (by omega)
      rw [← hM, ← hw, h1] at this
      exact absurd this (not_lt.2 (hN 0 (by omega)))
    · have := r3 (n w) (by omega)
      rw [h2, hw, hM] at this
      exact lt_irrefl _ this
  refine ⟨hM, ⟨⟨r / 200 % 32, Nat.mod_lt _ (by decide)⟩, ?_⟩, hge⟩
  generalize hw : (⟨r / 200 % 32, Nat.mod_lt _ (by decide)⟩ : Fin 32) = w
  have hmem : r ∈ tileRows w := mem_tileRows.2 ⟨r1, by rw [← hw]⟩
  have hm : m w = M := le_antisymm (hle w) (hM ▸ (h w).le r hmem)
  refine ⟨hm, le_antisymm ?_ (hge w hm)⟩
  rcases (h w).first with ⟨_, h2⟩ | ⟨_, _, h3⟩
  · omega
  · by_contra c
    have := h3 r hmem (by omega)
    rw [hm, hM] at this
    exact lt_irrefl _ this

theorem Best.lt {N : EReal} {x : ℕ → EReal} {w : ℕ} {m : EReal} {n : ℕ} (h : Best N x (tileRows w) m n) : n < 100000 := by
  rcases h.first with ⟨_, h⟩ | ⟨h, _⟩
  · omega
  · exact (mem_tileRows.1 h).1

/-- A maximum over finitely many, from an upper bound that one of them is. -/
theorem fold_max_eq {n : ℕ} {f : Fin n → EReal} {v : EReal} (h1 : ∀ w, f w ≤ v) (h2 : ∃ w, f w = v) :
    (Finset.univ : Finset (Fin n)).fold max ⊥ f = v := by
  apply le_antisymm
  · exact Finset.fold_max_le _ |>.2 ⟨bot_le, fun w _ => h1 w⟩
  · obtain ⟨w, hw⟩ := h2
    exact Finset.le_fold_max _ |>.2 (.inr ⟨w, Finset.mem_univ _, hw.ge⟩)

/-- A minimum over finitely many, from a lower bound that one of them is. -/
theorem fold_min_eq {n : ℕ} {f : Fin n → EReal} {v : EReal} (h1 : ∀ w, v ≤ f w) (h2 : ∃ w, f w = v) :
    (Finset.univ : Finset (Fin n)).fold min ⊤ f = v := by
  apply le_antisymm
  · obtain ⟨w, hw⟩ := h2
    exact Finset.fold_min_le _ |>.2 (.inr ⟨w, Finset.mem_univ _, hw.le⟩)
  · exact Finset.le_fold_min _ |>.2 ⟨le_top, fun w _ => h1 w⟩

/-! ## Sums -/

/-- The tiles' sums add up to the sum over all rows. -/
theorem sum_tiles (f : ℕ → EReal) : ∑ w : Fin 32, ∑ r ∈ tileRows w, f r = ∑ r ∈ Finset.range 100000, f r := by
  rw [← Finset.sum_fiberwise_of_maps_to (s := Finset.range 100000) (t := (Finset.univ : Finset (Fin 32)))
    (g := fun r => (⟨r / 200 % 32, Nat.mod_lt _ (by decide)⟩ : Fin 32)) (fun _ _ => Finset.mem_univ _)]
  refine Finset.sum_congr rfl fun w _ => Finset.sum_congr ?_ fun _ _ => rfl
  ext r
  rw [mem_tileRows, Finset.mem_filter, Finset.mem_range]
  exact and_congr_right fun _ => ⟨fun e => Fin.ext e, fun e => congrArg Fin.val e⟩

/-- One tile picks the value at row `a`, the others nothing. -/
theorem pick_tiles (x : ℕ → EReal) {a : ℕ} (ha : a < 100000) :
    (∑ w : Fin 32, if a ∈ tileRows w then x a else 0) = x a := by
  have : ∀ w : Fin 32, (if a ∈ tileRows w then x a else 0) = ∑ r ∈ tileRows w, if a = r then x r else 0 := fun w => by
    rw [Finset.sum_ite_eq]
  rw [Finset.sum_congr rfl fun w _ => this w, sum_tiles fun r => if a = r then x r else 0, Finset.sum_ite_eq,
    if_pos (Finset.mem_range.2 ha)]

/-! ## The shift in a log-softmax -/

theorem exp_nonneg (y : EReal) : 0 ≤ Ideal.exp y := by
  induction y with
  | bot => simp
  | top => simp
  | coe r => rw [Ideal.exp_coe]; exact_mod_cast (Real.exp_pos r).le

theorem coe_sum (s : Finset ℕ) (f : ℕ → ℝ) : ((∑ r ∈ s, f r : ℝ) : EReal) = ∑ r ∈ s, (f r : EReal) := by
  classical
  induction s using Finset.induction_on with
  | empty => simp
  | insert a s ha ih => rw [Finset.sum_insert ha, Finset.sum_insert ha, EReal.coe_add, ih]

/-- A log-softmax is the same with every value lessened by the largest, where no value is `-∞`. -/
theorem shift {N : EReal} (hN : N ≠ ⊥) {x : ℕ → EReal} (hx : ∀ r < 100000, N ≤ x r) {a p : ℕ} (ha : a < 100000) (hp : p < 100000)
    (hmax : ∀ r < 100000, x r ≤ x p) :
    (x a - x p) - Ideal.log (∑ r ∈ Finset.range 100000, Ideal.exp (x r - x p))
      = x a - Ideal.log (∑ r ∈ Finset.range 100000, Ideal.exp (x r)) := by
  by_cases htop : x p = ⊤
  · have h1 : ∑ r ∈ Finset.range 100000, Ideal.exp (x r - x p) = 0 :=
      Finset.sum_eq_zero fun r _ => by rw [htop, EReal.sub_top, Ideal.exp_bot]
    have h2 : ∑ r ∈ Finset.range 100000, Ideal.exp (x r) = ⊤ := by
      refine top_le_iff.1 (le_trans ?_ (Finset.single_le_sum (fun r _ => exp_nonneg (x r)) (Finset.mem_range.2 hp)))
      rw [htop, Ideal.exp_top]
    rw [h1, h2, htop, Ideal.log_top, EReal.sub_top, EReal.bot_sub]
  · have hreal : ∀ r < 100000, x r = ((x r).toReal : EReal) := fun r hr =>
      (EReal.coe_toReal (ne_top_of_le_ne_top htop (hmax r hr)) (ne_bot_of_le_ne_bot hN (hx r hr))).symm
    set y : ℕ → ℝ := fun r => (x r).toReal with hy
    have h1 : ∑ r ∈ Finset.range 100000, Ideal.exp (x r) = ((∑ r ∈ Finset.range 100000, Real.exp (y r) : ℝ) : EReal) := by
      rw [coe_sum]
      exact Finset.sum_congr rfl fun r hr => by rw [hreal r (Finset.mem_range.1 hr), Ideal.exp_coe]
    have h2 : ∑ r ∈ Finset.range 100000, Ideal.exp (x r - x p)
        = ((∑ r ∈ Finset.range 100000, Real.exp (y r - y p) : ℝ) : EReal) := by
      rw [coe_sum]
      exact Finset.sum_congr rfl fun r hr => by
        rw [hreal r (Finset.mem_range.1 hr), hreal p hp, ← EReal.coe_sub, Ideal.exp_coe]
    have hpos : 0 < ∑ r ∈ Finset.range 100000, Real.exp (y r) :=
      Finset.sum_pos (fun r _ => Real.exp_pos _) ⟨p, Finset.mem_range.2 hp⟩
    have hsum : ∑ r ∈ Finset.range 100000, Real.exp (y r - y p) = (∑ r ∈ Finset.range 100000, Real.exp (y r)) * Real.exp (-y p) := by
      rw [Finset.sum_mul]
      exact Finset.sum_congr rfl fun r _ => by rw [← Real.exp_add, sub_eq_add_neg]
    rw [h1, h2, hsum]
    clear h1 h2 hsum
    generalize ∑ r ∈ Finset.range 100000, Real.exp (y r) = sy at hpos ⊢
    rw [Ideal.log_coe, Ideal.log_coe, if_neg (not_le.2 hpos), if_neg (not_le.2 (mul_pos hpos (Real.exp_pos _))),
      Real.log_mul hpos.ne' (Real.exp_pos _).ne', Real.log_exp, hreal a ha, hreal p hp, ← EReal.coe_sub, ← EReal.coe_sub, ← EReal.coe_sub]
    exact congrArg Real.toEReal (by ring)

end Cert.Proof.Rows

end
-- ==== Proof.LaneRun.lean ====
/-
  One lane of a tile's run over the extended reals: what its running values are after its blocks.
-/
module

public import proofs.«01_k».proof.Proof.Tiles
public import proofs.«01_k».proof.Proof.Rows
public import Idealize.ShloMosaic.Lib.ValueLayout
public import Idealize.ShloMosaic.Lib.Affine

@[expose] public section

noncomputable section

namespace Cert.Proof.Tile

open Cert.KernelIdeal Cert.KernelIdeal.Gen
open Idealize.ShloMosaic
open Cert.Proof.Rows

/-- The value every lane's maximum starts at. -/
abbrev lowest : EReal := Ideal.ofBits .f32 0xFF7FFFFF#32

/-- Row `r` of lane `l`. -/
def xr (X : Vec Ideal S100000x128 .f32) (l : Fin 128) (r : ℕ) : EReal := X (ix2 ⟨r % 100000, Nat.mod_lt _ (by decide)⟩ l)

theorem blkV_apply (X : Vec Ideal S100000x128 .f32) (n : ℕ) (p : Fin 200) (l : Fin 128) :
    blkV X n (ix2 p l) = xr X l (200 * n + p.val) := by
  unfold blkV xr
  refine congrArg X (funext fun a => ?_)
  match a with
  | 0 => rfl
  | 1 => rfl

/-- The lane of place `x` of column `u`. -/
def lane (u : Fin 8) (x : S16.Idx) : Fin 128 := ⟨16 * u.val + (x 0).val, by have := idx16_lt x; omega⟩

theorem lane_emb (u : Fin 8) (x : S16.Idx) : (colR u).emb x = ix1 (lane u x) := by
  funext a
  match a with
  | 0 => exact Fin.ext (emb_col_val u x)

theorem row16_apply (B : Vec Ideal S200x128 .f32) (t : Fin k0_t2_loop.trips) (u : Fin 8) (x : S16.Idx) :
    row16 (rowOf B t u) x = B (ix2 (t.cast trips2) (lane u x)) := by
  have hx : x = ix1 (⟨(x 0).val, idx16_lt x⟩ : Fin 16) := eq_ix1 x
  have ht : (Scf.iv 0#32 1#32 t : BitVec 32).toNat = t.val := by
    have : t.val < 200 := lt_of_lt_of_eq t.isLt trips2
    rw [iv_eq, BitVec.toNat_ofNat]; omega
  have e : row16 (rowOf B t u) x = rowOf B t u (ix2 (0 : Fin 1) (⟨(x 0).val, idx16_lt x⟩ : Fin 16)) := by
    conv_lhs => rw [hx]
    exact ValueIdx.shapeCast_1a_a_apply _ _ _
  rw [e]
  refine congrArg B (funext fun a => ?_)
  match a with
  | 0 =>
    apply Fin.ext
    show (Scf.iv 0#32 1#32 t : BitVec 32).toNat + 1 * 0 = t.val
    omega
  | 1 =>
    apply Fin.ext
    show 16 * u.val + 1 * (x 0).val = 16 * u.val + (x 0).val
    omega

theorem ofBool_one (b : Bool) : BitVec.ofBool b = 1#1 ↔ b = true := by cases b <;> decide

theorem upM_apply (x m : Vec Ideal S16 .f32) (j : S16.Idx) : upM x m j = (if m j < x j then x j else m j : EReal) := by
  show (if BitVec.ofBool (decide (m j < x j)) = 1#1 then x j else m j) = _
  simp only [ofBool_one, decide_eq_true_eq]

theorem upI_apply (ix : IVec S16 32) (x m : Vec Ideal S16 .f32) (a : Vec Ideal S16 .i32) (j : S16.Idx) :
    upI ix x m a j = (if (m j : EReal) < x j then ix j else a j : BitVec 32) := by
  show (if BitVec.ofBool (decide (m j < x j)) = 1#1 then ix j else a j) = _
  simp only [ofBool_one, decide_eq_true_eq]

theorem upS_apply (x s : Vec Ideal S16 .f32) (j : S16.Idx) : upS x s j = (s j + Ideal.exp (x j) : EReal) := rfl

theorem rowIx_apply (n : ℕ) (t : Fin k0_t2_loop.trips) (x : S16.Idx) : rowIx (base n) t x = BitVec.ofNat 32 (200 * n + t.val) := by
  show 0#32 + (base n + Scf.iv 0#32 1#32 t) = _
  rw [iv_eq, base, BitVec.zero_add, ← BitVec.ofNat_add]

/-- A lane's running maximum, index and sum over the rows of `S`. -/
def Run (x : ℕ → EReal) (S : Finset ℕ) (m : EReal) (i : BitVec 32) (s : EReal) : Prop :=
  (∃ n, i = BitVec.ofNat 32 n ∧ Best lowest x S m n) ∧ s = ∑ r ∈ S, Ideal.exp (x r)

theorem Run.step {x : ℕ → EReal} {S : Finset ℕ} {m : EReal} {i : BitVec 32} {s : EReal} (h : Run x S m i s) {r : ℕ}
    (hr : ∀ q ∈ S, q < r) :
    Run x (insert r S) (if m < x r then x r else m) (if m < x r then BitVec.ofNat 32 r else i) (s + Ideal.exp (x r)) := by
  obtain ⟨⟨n, rfl, hb⟩, rfl⟩ := h
  refine ⟨⟨_, ?_, hb.step hr⟩, ?_⟩
  · split <;> rfl
  · rw [Finset.sum_insert fun hm => lt_irrefl _ (hr r hm), add_comm]

theorem rows_run (X : Vec Ideal S100000x128 .f32) {w k : ℕ} (hw : w < 32) (hn : 32 * k + w < 500) (c : Carry Ideal) (u : Fin 8) (x : S16.Idx)
    (h : Run (xr X (lane u x)) (seen w k 0) (c.m u x) (c.i u x) (c.s u x)) : ∀ t, t ≤ 200 →
    Run (xr X (lane u x)) (seen w k t) ((rows (blkV X (32 * k + w)) (base (32 * k + w)) c t).m u x)
      ((rows (blkV X (32 * k + w)) (base (32 * k + w)) c t).i u x) ((rows (blkV X (32 * k + w)) (base (32 * k + w)) c t).s u x) := by
  intro t
  induction t with
  | zero => exact fun _ => h
  | succ t ih =>
    intro ht
    have ht' : t < k0_t2_loop.trips := by rw [trips2]; omega
    have := (ih (by omega)).step (r := 200 * (32 * k + w) + t) fun q hq => seen_lt hw (by omega) hq
    rw [seen_succ hw (by omega) hn, rows_succ _ _ _ ⟨t, ht'⟩]
    unfold step
    dsimp only
    rw [upM_apply, upI_apply, upS_apply, rowIx_apply, row16_apply, blkV_apply]
    exact this

/-! ## The picked logit -/

theorem toInt_small {n : ℕ} (hn : n < 2 ^ 31) : (BitVec.ofNat 32 n).toInt = n := by
  rw [BitVec.toInt_eq_toNat_cond]
  simp only [BitVec.toNat_ofNat]
  split <;> omega

theorem locI_toInt {a n : ℕ} (ha : a < 100000) (hn : n < 500) :
    (BitVec.ofNat 32 a - base n).toInt = (a : ℤ) - 200 * n := by
  unfold base
  rw [BitVec.toInt_eq_toNat_cond]
  simp only [BitVec.toNat_sub, BitVec.toNat_ofNat]
  split <;> omega

theorem upG_apply (X : Vec Ideal S100000x128 .f32) {n a : ℕ} (hn : n < 500) (ha : a < 100000) (av : Vec Ideal S16 .i32) (g : Vec Ideal S16 .f32)
    (u : Fin 8) (x : S16.Idx) (hav : av x = BitVec.ofNat 32 a) :
    upG av (base n) (gat (blkV X n) av (base n) u) g x = (g x + if a / 200 = n then xr X (lane u x) a else 0 : EReal) := by
  have hloc : (locI av (base n) x).toInt = (a : ℤ) - 200 * n := by
    show (av x - base n).toInt = _
    rw [hav, locI_toInt ha hn]
  have h0 : (0#32 : BitVec 32).toInt = 0 := rfl
  have h200 : (200#32 : BitVec 32).toInt = 200 := rfl
  have h199 : (199#32 : BitVec 32).toInt = 199 := rfl
  have hin : inB av (base n) x = 1#1 ↔ a / 200 = n := by
    show IntOp.andi (IntOp.cmpi .sge (locI av (base n) x) 0#32) (IntOp.cmpi .slt (locI av (base n) x) 200#32) = 1#1 ↔ _
    rw [IntOp.andi_eq_one, IntOp.cmpi_sge, IntOp.cmpi_slt, hloc, h0, h200]
    omega
  show (g x : EReal) + (if inB av (base n) x = 1#1 then gat (blkV X n) av (base n) u x else Ideal.ofBits .f32 0x00000000#32) = _
  rw [Ideal.ofBits_zero_f32]
  by_cases c : a / 200 = n
  · rw [if_pos c, if_pos (hin.2 c)]
    refine congrArg (fun z : EReal => (g x : EReal) + z) ?_
    have h1 : (clampI av (base n) x).toNat = a - 200 * n := by
      show (IntOp.minsi (199#32) (IntOp.maxsi (0#32) (locI av (base n) x))).toNat = _
      have hx := BitVec.toInt_eq_toNat_cond (locI av (base n) x)
      unfold IntOp.minsi IntOp.maxsi
      simp only [BitVec.slt, decide_eq_true_eq, h0, h199]
      have e0 : ¬ (locI av (base n) x).toInt < 0 := by omega
      rw [if_neg e0, if_neg (by omega)]
      split at hx <;> omega
    unfold gat loadIdx
    have : idxAt ![clampI av (base n), colIx u] (gath_inb av (base n) u) x = ix2 (⟨a - 200 * n, by omega⟩ : Fin 200) (lane u x) := by
      funext l
      match l with
      | 0 => exact Fin.ext h1
      | 1 => exact Fin.ext (colIx_toNat u x)
    rw [this, blkV_apply]
    congr 1
    show 200 * n + (a - 200 * n) = a
    omega
  · rw [if_neg c, if_neg fun h => c (hin.1 h)]

/-! ## A tile's run -/

/-- A lane after the rows of `S`, where `a` is its selected row. -/
structure LaneAt (x : ℕ → EReal) (a : ℕ) (S : Finset ℕ) (σ : St Ideal) (j : S128.Idx) : Prop where
  run : Run x S (σ.m j) (σ.i j) (σ.s j)
  pick : σ.g j = (if a ∈ S then x a else 0 : EReal)

theorem lane_st0 (x : ℕ → EReal) (a : ℕ) (j : S128.Idx) : LaneAt x a ∅ (st0 (F := Ideal)) j where
  run := ⟨⟨0, rfl, Best.empty _ _⟩, by rw [Finset.sum_empty]; exact Ideal.ofBits_zero_f32⟩
  pick := by rw [if_neg (Finset.notMem_empty a)]; exact Ideal.ofBits_zero_f32

theorem lane_blk (act : Vec Ideal S128 .i32) (X : Vec Ideal S100000x128 .f32) {w k a : ℕ} (hw : w < 32) (hn : 32 * k + w < 500) (ha : a < 100000)
    (σ : St Ideal) (l : Fin 128) (hact : act (ix1 l) = BitVec.ofNat 32 a) (h : LaneAt (xr X l) a (seen w k 0) σ (ix1 l)) :
    LaneAt (xr X l) a (seen w (k + 1) 0) (blkStep act (blkV X (32 * k + w)) (base (32 * k + w)) σ) (ix1 l) := by
  have hl : lane (colOf (ix1 l)) (inCol (ix1 l)) = l := by
    have := (lane_emb (colOf (ix1 l)) (inCol (ix1 l))).symm.trans (emb_inCol (ix1 l))
    exact congrFun this 0
  have he : (colR (colOf (ix1 l))).emb (inCol (ix1 l)) = ix1 l := emb_inCol (ix1 l)
  generalize hu : colOf (ix1 l) = u at hl he
  generalize hx : inCol (ix1 l) = x at hl he
  refine ⟨?_, ?_⟩
  · have := rows_run X hw hn σ.carry u x (by
      rw [hl]
      show Run _ _ (σ.m ((colR u).emb x)) (σ.i ((colR u).emb x)) (σ.s ((colR u).emb x))
      rw [he]; exact h.run) 200 le_rfl
    rw [hl, seen_block] at this
    unfold blkStep join
    dsimp only
    rw [hu, hx, trips2]
    exact this
  · show upG (col act (colOf (ix1 l))) _ (gat _ (col act (colOf (ix1 l))) _ (colOf (ix1 l))) (col σ.g (colOf (ix1 l))) (inCol (ix1 l)) = _
    rw [hu, hx, upG_apply X hn ha _ _ u x (by show act ((colR u).emb x) = _; rw [he, hact]), hl]
    show σ.g ((colR u).emb x) + _ = _
    rw [he, h.pick]
    have e : a ∈ seen w (k + 1) 0 ↔ a ∈ seen w k 0 ∨ a / 200 = 32 * k + w := by
      rw [mem_seen, mem_seen]; omega
    by_cases c : a ∈ seen w k 0
    · have c' : ¬ a / 200 = 32 * k + w := by rw [mem_seen] at c; omega
      rw [if_pos c, if_neg c', if_pos (e.2 (.inl c)), add_zero]
    · by_cases c' : a / 200 = 32 * k + w
      · rw [if_neg c, if_pos c', if_pos (e.2 (.inr c')), zero_add]
      · rw [if_neg c, if_neg c', if_neg fun h => (e.1 h).elim c c', add_zero]

theorem lane_stN (act : Vec Ideal S128 .i32) (X : Vec Ideal S100000x128 .f32) {w a : ℕ} (hw : w < 32) (ha : a < 100000)
    (l : Fin 128) (hact : act (ix1 l) = BitVec.ofNat 32 a) : ∀ k, k ≤ nBlk w →
    LaneAt (xr X l) a (seen w k 0) (stN act X w k) (ix1 l) := by
  intro k
  induction k with
  | zero => intro _; rw [seen_zero]; exact lane_st0 _ _ _
  | succ k ih =>
    intro hk
    refine lane_blk act X hw ?_ ha _ l hact (ih (by omega))
    unfold nBlk at hk
    split at hk <;> omega

/-- A lane of a tile, when all its blocks are done. -/
theorem lane_tile (act : Vec Ideal S128 .i32) (X : Vec Ideal S100000x128 .f32) {w a : ℕ} (hw : w < 32) (ha : a < 100000)
    (l : Fin 128) (hact : act (ix1 l) = BitVec.ofNat 32 a) :
    LaneAt (xr X l) a (tileRows w) (stN act X w (nBlk w)) (ix1 l) := by
  rw [← seen_all hw rfl]
  exact lane_stN act X hw ha l hact _ le_rfl

end Cert.Proof.Tile

end
-- ==== Proof.FinishVal.lean ====
/-
  The finishing call's values over the extended reals, of the tiles' partial results: the log-probability of the selected
  row and the first row that holds the largest value.
-/
module

public import proofs.«01_k».proof.Proof.Finish
public import proofs.«01_k».proof.Proof.LaneRun
public import Idealize.ShloMosaic.PureOps.Ideal.Laws

@[expose] public section

noncomputable section

namespace Cert.Proof.Tile

open Cert.KernelIdeal Cert.KernelIdeal.Gen
open Idealize.ShloMosaic
open Cert.Proof.Rows

variable (act : Vec Ideal S128 .i32) (X : Vec Ideal S100000x128 .f32)

theorem plane_apply (p : Fin 4) (off : Fin 3 → Nat) (h : ∀ a, off a + S1x32x128.size a ≤ S4x32x128.size a) (he : off = ![p.val, 0, 0])
    (w : Fin 32) (l : Fin 128) : plane (poOf act X) off h (ix2 w l) = rowVal act X w.val p (ix1 l) := by
  subst he
  unfold plane
  refine (ValueIdx.shapeCast_1ab_ab_apply _ _ w l).trans ?_
  show poOf act X _ = _
  have : (Rect.unit (s := S4x32x128) ![p.val, 0, 0] S1x32x128.size h).emb (ix3 (0 : Fin 1) w l) = ix3 p w l := by
    funext a
    match a with
    | 0 => exact Fin.ext (by rw [Rect.emb_apply]; show p.val + 1 * 0 = p.val; omega)
    | 1 => exact Fin.ext (by rw [Rect.emb_apply]; show 0 + 1 * w.val = w.val; omega)
    | 2 => exact Fin.ext (by rw [Rect.emb_apply]; show 0 + 1 * l.val = l.val; omega)
  exact congrArg (poOf act X) this

theorem lift_ix (l : Fin 128) (w : Fin 32) : reduces_S32x128_S128.lift (ix1 l) w = ix2 w l := by
  funext a
  match a with
  | 0 => rfl
  | 1 => rfl

theorem finSum_apply (P : FVec Ideal S32x128 .f32) (l : Fin 128) : finSum P (ix2 0 l) = ∑ w : Fin 32, (P (ix2 w l) : EReal) := by
  unfold finSum
  refine (ValueIdx.shapeCast_a_1a_apply _ _ 0 l).trans ?_
  refine (Ideal.multiReduction_add_single _ _ _ _ _ _).trans (Finset.sum_congr rfl fun w _ => ?_)
  exact congrArg P (lift_ix l w)

theorem finMax_apply (Y : Vec Ideal S4x32x128 .f32) (l : Fin 128) :
    finMax Y (ix2 0 l) = (Finset.univ : Finset (Fin 32)).fold max ⊥ fun w => (plane Y _ inb_S4x32x128_S1x32x128_0_0_0 (ix2 w l) : EReal) := by
  unfold finMax
  refine (ValueIdx.shapeCast_a_1a_apply _ _ 0 l).trans ?_
  refine (Ideal.multiReduction_maximumf_single _ _ _ _ _ _).trans ?_
  have h : (FloatOps.ofBits .f32 0xFF800000#32 : Ideal .f32) = (⊥ : EReal) := by simp [Ideal.ofBits, Ideal.ieee]
  rw [h]
  refine congrArg (fun f : Fin 32 → EReal => (Finset.univ : Finset (Fin 32)).fold max ⊥ f) (funext fun w => ?_)
  exact congrArg (plane Y _ inb_S4x32x128_S1x32x128_0_0_0) (lift_ix l w)

/-- The number that stands for a tile without the maximum. -/
theorem none_eq : (Ideal.ofBits .f32 0x47C35000#32 : EReal) = ((100000 : ℝ) : EReal) := by
  simp [Ideal.ofBits, Ideal.ieee, -EReal.coe_mul]
  norm_num

theorem held_apply (Y : Vec Ideal S4x32x128 .f32) (w : Fin 32) (l : Fin 128) :
    (select (cmpf .oeq (plane Y _ inb_S4x32x128_S1x32x128_0_0_0) (broadcastTo S32x128 (finMax Y) broadcasts_S1x128_S32x128))
      (plane Y _ inb_S4x32x128_S1x32x128_2_0_0) (broadcast S32x128 (Scalar.ofBits .f32 0x47C35000#32)) : FVec Ideal S32x128 .f32) (ix2 w l)
      = (if (plane Y _ inb_S4x32x128_S1x32x128_0_0_0 (ix2 w l) : EReal) = finMax Y (ix2 0 l) then (plane Y _ inb_S4x32x128_S1x32x128_2_0_0 (ix2 w l) : EReal)
        else ((100000 : ℝ) : EReal)) := by
  show (if BitVec.ofBool (decide ((plane Y _ inb_S4x32x128_S1x32x128_0_0_0 (ix2 w l) : EReal) = broadcastTo S32x128 (finMax Y) broadcasts_S1x128_S32x128 (ix2 w l))) = 1#1
    then (plane Y _ inb_S4x32x128_S1x32x128_2_0_0 (ix2 w l) : EReal) else Ideal.ofBits .f32 0x47C35000#32) = _
  rw [show broadcastTo S32x128 (finMax Y) broadcasts_S1x128_S32x128 (ix2 w l) = finMax Y (ix2 0 l) from ValueIdx.broadcastTo_1b_ab_apply _ _ w l, none_eq]
  simp only [ofBool_one, decide_eq_true_eq]

theorem finIx_apply (Y : Vec Ideal S4x32x128 .f32) (l : Fin 128) :
    finIx Y (ix2 0 l) = (Finset.univ : Finset (Fin 32)).fold min ⊤ fun w =>
      (if (plane Y _ inb_S4x32x128_S1x32x128_0_0_0 (ix2 w l) : EReal) = finMax Y (ix2 0 l) then (plane Y _ inb_S4x32x128_S1x32x128_2_0_0 (ix2 w l) : EReal)
        else ((100000 : ℝ) : EReal)) := by
  conv_lhs => unfold finIx
  refine (ValueIdx.shapeCast_a_1a_apply _ _ 0 l).trans ?_
  refine (multiReduction_minimumf_eq_fold (F := Ideal) _ _ _ _ _ _).trans ?_
  refine (reduces_S32x128_S128.fold_filter_drop_single _ _ _ (ix1 l)).trans ?_
  have h : (FloatOps.ofBits .f32 0x7F800000#32 : Ideal .f32) = (⊤ : EReal) := by simp [Ideal.ofBits, Ideal.ieee]
  rw [h]
  refine congrArg (fun f : Fin 32 → EReal => (Finset.univ : Finset (Fin 32)).fold min ⊤ f) (funext fun w => ?_)
  exact (congrArg _ (lift_ix l w)).trans (held_apply Y w l)

/-- A row number read back from its float. -/
theorem fptosi_row {r : ℕ} (hr : r < 100000) : Ideal.fptosi 32 ((r : ℝ) : EReal) = BitVec.ofNat 32 r := by
  unfold Ideal.fptosi
  have : Ideal.toIntClamped (-(2 ^ (32 - 1) : Nat)) ((2 ^ (32 - 1) : Nat) - 1) ((r : ℝ) : EReal) = (r : ℤ) := by
    show max _ (min _ (if (0 : ℝ) ≤ (r : ℝ) then ⌊(r : ℝ)⌋ else ⌈(r : ℝ)⌉)) = _
    rw [if_pos (Nat.cast_nonneg r), Int.floor_natCast]
    omega
  rw [this]
  simp

variable {act X} {l : Fin 128} {a : ℕ} (ha : a < 100000) (hact : act (ix1 l) = BitVec.ofNat 32 a)

include ha hact

/-- The log-probabilities: of the selected row, without the shift by the maximum. -/
theorem finLp_apply : finLp (poOf act X) (ix2 0 l)
    = xr X l a - Ideal.log (∑ r ∈ Finset.range 100000, Ideal.exp (xr X l r)) := by
  have h3 : finSum (plane (poOf act X) _ inb_S4x32x128_S1x32x128_3_0_0) (ix2 0 l) = xr X l a := by
    rw [finSum_apply, ← pick_tiles (xr X l) ha]
    refine Finset.sum_congr rfl fun w _ => ?_
    refine (plane_apply act X 3 _ _ rfl w l).trans ?_
    exact (lane_tile act X w.isLt ha l hact).pick
  have h1 : finSum (plane (poOf act X) _ inb_S4x32x128_S1x32x128_1_0_0) (ix2 0 l) = ∑ r ∈ Finset.range 100000, Ideal.exp (xr X l r) := by
    rw [finSum_apply, ← sum_tiles fun r => Ideal.exp (xr X l r)]
    refine Finset.sum_congr rfl fun w _ => ?_
    refine (plane_apply act X 1 _ _ rfl w l).trans ?_
    exact (lane_tile act X w.isLt ha l hact).run.2
  exact congrArg₂ (fun p q : EReal => p - Ideal.log q) h3 h1

/-- The modes: the first row that holds the largest value. -/
theorem finMd_apply (hN : ∀ r < 100000, lowest ≤ xr X l r) {r : ℕ} (hr : First (xr X l) r) :
    finMd (poOf act X) (ix2 0 l) = BitVec.ofNat 32 r := by
  have ht := fun w : Fin 32 => (lane_tile act X w.isLt ha l hact).run.1
  choose n hn hb using ht
  have e0 : ∀ w : Fin 32, (plane (poOf act X) _ inb_S4x32x128_S1x32x128_0_0_0 (ix2 w l) : EReal) = (stN act X w.val (nBlk w.val)).m (ix1 l) := fun w => by
    exact plane_apply act X 0 _ _ rfl w l
  have e2 : ∀ w : Fin 32, (plane (poOf act X) _ inb_S4x32x128_S1x32x128_2_0_0 (ix2 w l) : EReal) = ((n w : ℝ) : EReal) := fun w => by
    refine (plane_apply act X 2 _ _ rfl w l).trans ?_
    show ((((stN act X w.val (nBlk w.val)).i (ix1 l)).toInt : ℝ) : EReal) = _
    rw [hn w, toInt_small (by have := (hb w).lt; omega)]
    simp
  obtain ⟨w0, _, hw0⟩ := Finset.exists_max_image (Finset.univ : Finset (Fin 32)) (fun w => ((stN act X w.val (nBlk w.val)).m (ix1 l) : EReal)) ⟨0, Finset.mem_univ _⟩
  have hle := fun w => hw0 w (Finset.mem_univ _)
  have hmax : (finMax (poOf act X) (ix2 0 l) : EReal) = (stN act X w0.val (nBlk w0.val)).m (ix1 l) := by
    rw [finMax_apply]
    exact fold_max_eq (fun w => (e0 w).le.trans (hle w)) ⟨w0, e0 w0⟩
  obtain ⟨_, ⟨w1, hw1, hn1⟩, hge⟩ := best_all hN hb hle ⟨w0, rfl⟩ hr
  have hix : (finIx (poOf act X) (ix2 0 l) : EReal) = ((r : ℝ) : EReal) := by
    rw [finIx_apply, hmax]
    refine fold_min_eq (fun w => ?_) ⟨w1, ?_⟩
    · rw [e0, e2]
      split
      · next c => exact_mod_cast hge w c
      · have := hr.1
        exact_mod_cast this.le
    · rw [e0, e2, if_pos hw1, hn1]
  show Ideal.fptosi 32 (finIx (poOf act X) (ix2 0 l)) = _
  rw [hix, fptosi_row hr.1]

end Cert.Proof.Tile

end
-- ==== Proof.RefVal.lean ====
/-
  The reference's results over the extended reals, lane by lane: the selected row's log-probability and the first row that
  holds the largest value.
-/
module

public import proofs.«01_k».proof.Proof.Ref
public import proofs.«01_k».proof.Proof.LaneRun
public import Idealize.ShloMosaic.PureOps.Ideal.Laws
public import Idealize.ShloMosaic.Lib.IdealHost
public import Idealize.ShloMosaic.Lib.ReduceAll
public import Idealize.ShloMosaic.Lib.Pipeline.Value

@[expose] public section

noncomputable section

namespace Cert.Proof.Ref

open Cert.ReferenceIdeal Cert.ReferenceIdeal.Gen
open Idealize.ShloMosaic
open Cert.Proof.Rows
open Cert.Proof.Tile (lowest toInt_small ofBool_one)

/-- Row `r` of lane `l`. -/
def xl (x : Vec Ideal S128x100000 .f32) (l : Fin 128) (r : ℕ) : EReal := x (ix2 l ⟨r % 100000, Nat.mod_lt _ (by decide)⟩)

theorem xl_fin (x : Vec Ideal S128x100000 .f32) (l : Fin 128) (r : Fin 100000) : x (ix2 l r) = xl x l r.val :=
  congrArg x (congrArg (ix2 l) (Fin.ext (Nat.mod_eq_of_lt r.isLt).symm))

theorem reduces_rows : S128x100000.Reduces [1] S128 := by decide

theorem lift_row (l : Fin 128) (r : Fin 100000) : reduces_rows.lift (ix1 l) r = ix2 l r := by
  funext a
  match a with
  | 0 => rfl
  | 1 => rfl

theorem reduces_one : S128x1.Reduces [1] S128 := by decide

theorem lift_one (l : Fin 128) (k : Fin 1) : reduces_one.lift (ix1 l) k = ix2 l k := by
  funext a
  match a with
  | 0 => rfl
  | 1 => rfl

theorem over_row (v : S128x1.Idx → EReal) (l : Fin 128) (r : Fin 100000) :
    broadcastInDim S128x100000 ![0, 1] bcast_S128x1_S128x100000_0_1 v (ix2 l r) = v (ix2 l 0) :=
  broadcastInDim_apply _ _ _ _ _ fun a => match a with | 0 => rfl | 1 => rfl

theorem over_one {α : Type} (v : S128.Idx → α) (l : Fin 128) (k : Fin 1) :
    broadcastInDim S128x1 ![0] bcast_S128_S128x1_0 v (ix2 l k) = v (ix1 l) :=
  broadcastInDim_apply _ _ _ _ _ fun a => match a with | 0 => rfl

theorem bot_eq : (Ideal.ofBits .f32 0xFF800000#32 : EReal) = ⊥ := by simp [Ideal.ofBits, Ideal.ieee]

theorem fold_hi {n : ℕ} {f : Fin n → EReal} {b v : EReal} (hb : b = ⊥) (h1 : ∀ w, f w ≤ v) (h2 : ∃ w, f w = v) :
    (Finset.univ : Finset (Fin n)).fold (FloatOps.maximumf (F := Ideal) (φ := .f32)) b f = v := by
  subst hb
  exact fold_max_eq h1 h2

theorem sum_fin {n : ℕ} {f : Fin n → EReal} {g : ℕ → EReal} {b : EReal} (hb : b = 0) (h : ∀ k, f k = g k.val) :
    b + ∑ k, f k = ∑ q ∈ Finset.range n, g q := by
  rw [hb, zero_add, Finset.sum_range]
  exact Finset.sum_congr rfl fun k _ => h k

theorem lift_val (x : Vec Ideal S128x100000 .f32) (l : Fin 128) (k : Fin (S128x100000.size 1)) :
    (x (reduces_rows.lift (ix1 l) k) : EReal) = xl x l k.val :=
  (congrArg x (lift_row l k)).trans (xl_fin x l k)

theorem rowMax (x : Vec Ideal S128x100000 .f32) (l : Fin 128) {p : ℕ} (hp : First (xl x l) p) :
    (Host.reduce (FloatOps.maximumf (F := Ideal) (φ := .f32)) x (constant (F := Ideal) S_ .f32 0xFF800000#32) reducesTo_S128x100000_S128_d1 h_S_ (ix1 l) : EReal) = xl x l p :=
  (Host.reduce_eq_fold_single _ _ _ _ reduces_rows _ _).trans
    (fold_hi bot_eq (fun k => (lift_val x l k).le.trans (hp.2.1 _ k.isLt)) ⟨⟨p, hp.1⟩, lift_val x l _⟩)

theorem rowSum (y : Vec Ideal S128x100000 .f32) (l : Fin 128) :
    (Host.reduceAdd (F := Ideal) (φ := .f32) y (constant S_ .f32 0x00000000#32) reducesTo_S128x100000_S128_d1 h_S_ (ix1 l) : EReal) = ∑ q ∈ Finset.range 100000, xl y l q :=
  (Ideal.hostReduceAdd_single _ reduces_rows _ _ _).trans (sum_fin Ideal.ofBits_zero_f32 (lift_val y l))

theorem max_apply {s : Shape} (v w : FVec Ideal s .f32) (j : s.Idx) : maximumf v w j = (max (v j) (w j) : EReal) := rfl
theorem sub_apply {s : Shape} (v w : FVec Ideal s .f32) (j : s.Idx) : subf v w j = (v j - w j : EReal) := rfl
theorem log_apply {s : Shape} (v : FVec Ideal s .f32) (j : s.Idx) : Host.log v j = Ideal.log (v j) := rfl
theorem exp_apply {s : Shape} (v : FVec Ideal s .f32) (j : s.Idx) : Host.exp v j = Ideal.exp (v j) := rfl

theorem floor_apply (j : S128.Idx) :
    (broadcastInDim S128 ![] bcast_S_S128 (constant (F := Ideal) S_ .f32 0xFF800000#32) j : EReal) = ⊥ :=
  (ValueIdx.broadcastInDim_scalar_apply _ _ _).trans bot_eq

theorem topR_apply (x : Vec Ideal S128x100000 .f32) (l : Fin 128) (r : Fin 100000) {p : ℕ} (hp : First (xl x l) p) :
    topR x (ix2 l r) = xl x l p := by
  unfold topR
  rw [over_row, over_one, max_apply, floor_apply, max_eq_right bot_le, rowMax x l hp]

theorem logR_apply (y : Vec Ideal S128x100000 .f32) (l : Fin 128) (r : Fin 100000) :
    logR y (ix2 l r) = Ideal.log (∑ q ∈ Finset.range 100000, Ideal.exp (xl y l q)) := by
  unfold logR
  rw [over_row, log_apply, over_one, rowSum]
  exact congrArg Ideal.log (Finset.sum_congr rfl fun q _ => exp_apply y _)

/-- A row's log-softmax, without the shift by the largest element. -/
theorem softR_apply (x : Vec Ideal S128x100000 .f32) (l : Fin 128) (hN : ∀ r < 100000, lowest ≤ xl x l r) (hbot : lowest ≠ ⊥) (a : Fin 100000) :
    softR x (ix2 l a) = xl x l a.val - Ideal.log (∑ r ∈ Finset.range 100000, Ideal.exp (xl x l r)) := by
  obtain ⟨p, hp⟩ := exists_first (xl x l)
  have e : ∀ r, xl (subf x (topR x)) l r = xl x l r - xl x l p := fun r => by
    unfold xl
    rw [sub_apply, topR_apply x l _ hp]; rfl
  unfold softR
  rw [sub_apply, logR_apply, xl_fin (subf x (topR x)) l a, e, Finset.sum_congr rfl fun r _ => congrArg Ideal.exp (e r)]
  exact shift hbot hN a.isLt hp.1 hp.2.1

/-! ## The element taken -/

/-- How an element is taken of each row. -/
abbrev dims := gather_S128x100000_S128x1x1_S128x1_n_1_0_0_1_2_11

theorem off_zero (l : Fin 128) (c : Fin 2) : dims.offCoord (ix2 l 0) c = 0 :=
  GatherDims.offCoord_eq_zero _ _ _ fun h => by
    have h' := (GatherDims.mem_sKept _ _).1 h
    match c with
    | 0 => exact h'.2 (List.mem_singleton.2 rfl)
    | 1 => exact h'.1 (List.mem_singleton.2 rfl)

theorem start_row (i : Vec Ideal S128x1x1 .i32) (l : Fin 128) : dims.start (ix2 l 0) i 1 = min (i (ix3 l 0 0) : BitVec 32).toInt.toNat 99999 := by
  unfold GatherDims.start
  rw [dif_pos (show (1 : Fin 2) ∈ dims.startIndexMap from List.mem_singleton.2 rfl)]
  refine congrArg (fun k => min (i k : BitVec 32).toInt.toNat 99999) (funext fun b => Fin.ext ?_)
  match b with
  | 0 => rfl
  | 1 => rfl
  | 2 => rfl

theorem gather_row (y : Vec Ideal S128x100000 .f32) (i : Vec Ideal S128x1x1 .i32) (l : Fin 128) {a : ℕ} (ha : a < 100000)
    (hi : (i (ix3 l 0 0) : BitVec 32).toInt = a) : Host.gather dims y i (ix2 l 0) = xl y l a := by
  unfold Host.gather xl
  refine congrArg y (funext fun c => Fin.ext ?_)
  match c with
  | 0 =>
    show dims.start (ix2 l 0) i 0 + dims.batchCoord (ix2 l 0) 0 + dims.offCoord (ix2 l 0) 0 = l.val
    rw [off_zero, GatherDims.start_batching _ _ _ _ (List.mem_singleton.2 rfl), zero_add, add_zero]
    unfold GatherDims.batchCoord
    rw [dif_pos (show (0 : Fin 2) ∈ dims.operandBatchingDims from List.mem_singleton.2 rfl)]
    rfl
  | 1 =>
    show dims.start (ix2 l 0) i 1 + dims.batchCoord (ix2 l 0) 1 + dims.offCoord (ix2 l 0) 1 = a % 100000
    rw [off_zero, start_row, hi, GatherDims.batchCoord_eq_zero _ _ _ fun h => absurd (List.mem_singleton.1 h) (by decide)]
    omega

/-- Selected rows that are rows. -/
def InRows (a : Vec Ideal S128x1 .i32) : Prop := ∀ i, 0 ≤ (a i : BitVec 32).toInt ∧ (a i : BitVec 32).toInt < 100000

theorem ixR_eq {a : Vec Ideal S128x1 .i32} (ha : InRows a) : ixR (F := Ideal) a = shapeCast S128x1x1 a shapeCasts_S128x1_S128x1x1 := by
  unfold ixR
  refine congrArg (fun v => shapeCast S128x1x1 v shapeCasts_S128x1_S128x1x1) (funext fun k => ?_)
  show (if IntOp.cmpi .slt (a k) 0#32 = 1#1 then _ else a k) = a k
  rw [if_neg]
  rw [IntOp.cmpi_slt]
  have := (ha k).1
  have h0 : (0#32 : BitVec 32).toInt = 0 := rfl
  omega

theorem okR_eq {a : Vec Ideal S128x1 .i32} (ha : InRows a) (j : S128x1.Idx) :
    okR (F := Ideal) (shapeCast S128x1x1 a shapeCasts_S128x1_S128x1x1) j = 1#1 := by
  unfold okR
  refine Host.reduce_andi_one _ _ _ _ _ rfl fun i => ?_
  show IntOp.andi (IntOp.cmpi .sge (shapeCast S128x1x1 a shapeCasts_S128x1_S128x1x1 i) 0#32)
    (IntOp.cmpi .sle (shapeCast S128x1x1 a shapeCasts_S128x1_S128x1x1 i) 99999#32) = 1#1
  rw [IntOp.andi_eq_one, IntOp.cmpi_sge, IntOp.cmpi_sle]
  have h0 : (0#32 : BitVec 32).toInt = 0 := rfl
  have h1 : (99999#32 : BitVec 32).toInt = 99999 := rfl
  rw [h0, h1]
  obtain ⟨h2, h3⟩ := ha (Shape.reshapeEquiv shapeCasts_S128x1_S128x1x1 i)
  exact ⟨h2, Int.le_sub_one_of_lt h3⟩

theorem lpR_apply (x : Vec Ideal S128x100000 .f32) {a : Vec Ideal S128x1 .i32} (ha : InRows a) (l : Fin 128)
    (hN : ∀ r < 100000, lowest ≤ xl x l r) (hbot : lowest ≠ ⊥) {n : ℕ} (hn : (a (ix2 l 0) : BitVec 32).toInt = n) :
    lpR x a (ix2 l 0) = xl x l n - Ideal.log (∑ r ∈ Finset.range 100000, Ideal.exp (xl x l r)) := by
  have hlt : n < 100000 := by have := (ha (ix2 l 0)).2; omega
  unfold lpR
  rw [over_one]
  refine (Ideal.hostReduceAdd_single _ reduces_one _ _ _).trans ?_
  refine (congrArg₂ (fun a b : EReal => a + b) (Ideal.ofBits_zero_f32 : (Ideal.ofBits .f32 0x00000000#32 : EReal) = 0) (Fin.sum_univ_one _)).trans ((zero_add _).trans ?_)
  refine (congrArg _ (lift_one l 0)).trans ?_
  unfold takeR
  rw [ixR_eq ha]
  show (if okR (F := Ideal) (shapeCast S128x1x1 a shapeCasts_S128x1_S128x1x1) (ix2 l 0) = 1#1 then _ else _) = _
  rw [if_pos (okR_eq ha _), gather_row _ _ l hlt]
  · rw [← softR_apply x l hN hbot ⟨n, hlt⟩]
    exact (xl_fin _ l ⟨n, hlt⟩).symm
  · rw [← hn]
    refine congrArg BitVec.toInt (shapeCast_apply a _ _ (ix2 l 0) ?_)
    rw [Shape.rowMajor_val_three, Shape.rowMajor_val_two]
    show l.val * 1 + 0 = (l.val * 1 + 0) * 1 + 0
    omega

/-! ## The first row that holds the largest value -/

/-- What the reduction holds after the rows of `T`. -/
def Sel (x : ℕ → EReal) (T : ℕ → Prop) (p : EReal × BitVec 32) : Prop :=
  (p = (⊥, 0#32) ∧ ∀ r, ¬ T r) ∨ ∃ r, T r ∧ p = (x r, BitVec.ofNat 32 r) ∧ ∀ q, T q → x q < x r ∨ x q = x r ∧ r ≤ q

theorem reducer_apply (p q : EReal × BitVec 32) :
    reducer_argmax_f32_i32 (F := Ideal) p q
      = (if q.1 < p.1 then p.1 else q.1, if q.1 < p.1 ∨ p.1 = q.1 ∧ p.2.toInt < q.2.toInt then p.2 else q.2) := by
  have hv : IntOp.ori (FloatOps.cmpf (F := Ideal) (φ := .f32) .ogt p.1 q.1) (FloatOps.cmpf (F := Ideal) (φ := .f32) .une p.1 p.1) = 1#1 ↔ q.1 < p.1 := by
    rw [IntOp.ori_eq_one]
    show BitVec.ofBool (decide (q.1 < p.1)) = 1#1 ∨ BitVec.ofBool (decide (p.1 ≠ p.1)) = 1#1 ↔ _
    simp only [ofBool_one, decide_eq_true_eq, ne_eq, not_true_eq_false, or_false]
  have hi : IntOp.ori (IntOp.ori (FloatOps.cmpf (F := Ideal) (φ := .f32) .ogt p.1 q.1) (FloatOps.cmpf (F := Ideal) (φ := .f32) .une p.1 p.1))
      (IntOp.andi (FloatOps.cmpf (F := Ideal) (φ := .f32) .oeq p.1 q.1) (IntOp.cmpi .slt p.2 q.2)) = 1#1 ↔ q.1 < p.1 ∨ p.1 = q.1 ∧ p.2.toInt < q.2.toInt := by
    rw [IntOp.ori_eq_one, hv, IntOp.andi_eq_one, IntOp.cmpi_slt]
    show _ ∨ BitVec.ofBool (decide (p.1 = q.1)) = 1#1 ∧ _ ↔ _
    rw [ofBool_one, decide_eq_true_eq]
  exact Prod.ext (if_congr hv rfl rfl) (if_congr hi rfl rfl)

theorem Sel.step {x : ℕ → EReal} {T : ℕ → Prop} (hT : ∀ r, T r → r < 100000) {p : EReal × BitVec 32} (h : Sel x T p) {r : ℕ} (hr : r < 100000) (hx : ⊥ < x r) :
    Sel x (fun q => q = r ∨ T q) (reducer_argmax_f32_i32 (F := Ideal) p (x r, BitVec.ofNat 32 r)) := by
  rw [reducer_apply]
  rcases h with ⟨rfl, h⟩ | ⟨n, hn, rfl, h⟩
  · refine .inr ⟨r, .inl rfl, ?_, fun q hq => ?_⟩
    · have h1 : ¬ x r < ⊥ := not_lt_bot
      dsimp only
      rw [if_neg h1, if_neg (by rintro (c | ⟨c, _⟩); exacts [h1 c, hx.ne c])]
    · rcases hq with rfl | hq
      exacts [.inr ⟨rfl, le_rfl⟩, absurd hq (h q)]
  · have hn' := hT n hn
    dsimp only
    rw [toInt_small (by omega), toInt_small (by omega)]
    rcases lt_trichotomy (x r) (x n) with c | c | c
    · rw [if_pos c, if_pos (.inl c)]
      refine .inr ⟨n, .inr hn, rfl, fun q hq => ?_⟩
      rcases hq with rfl | hq
      exacts [.inl c, h q hq]
    · rw [if_neg c.not_lt]
      by_cases d : n < r
      · rw [if_pos (.inr ⟨c.symm, by exact_mod_cast d⟩)]
        refine .inr ⟨n, .inr hn, by rw [c], fun q hq => ?_⟩
        rcases hq with rfl | hq
        exacts [.inr ⟨c, d.le⟩, h q hq]
      · rw [if_neg (by rintro (e | ⟨_, e⟩); exacts [c.not_lt e, d (by exact_mod_cast e)])]
        refine .inr ⟨r, .inl rfl, rfl, fun q hq => ?_⟩
        rcases hq with rfl | hq
        · exact .inr ⟨rfl, le_rfl⟩
        · rcases h q hq with e | ⟨e, e'⟩
          exacts [.inl (e.trans_eq c.symm), .inr ⟨e.trans c.symm, by omega⟩]
    · rw [if_neg c.le.not_gt, if_neg (by rintro (e | ⟨e, _⟩); exacts [c.le.not_gt e, c.ne e])]
      refine .inr ⟨r, .inl rfl, rfl, fun q hq => ?_⟩
      rcases hq with rfl | hq
      · exact .inr ⟨rfl, le_rfl⟩
      · rcases h q hq with e | ⟨e, _⟩
        exacts [.inl (e.trans c), .inl (e.trans_lt c)]

theorem Sel.foldl {x : ℕ → EReal} (L : List ℕ) (hL : ∀ r ∈ L, r < 100000 ∧ ⊥ < x r) :
    ∀ {T : ℕ → Prop} (hT : ∀ r, T r → r < 100000) {p : EReal × BitVec 32} (h : Sel x T p),
    Sel x (fun q => q ∈ L ∨ T q) (L.foldl (fun p r => reducer_argmax_f32_i32 (F := Ideal) p (x r, BitVec.ofNat 32 r)) p) := by
  induction L with
  | nil =>
    intro T hT p h
    have : (fun q => q ∈ ([] : List ℕ) ∨ T q) = T := funext fun q => by simp
    rw [this]; exact h
  | cons r L ih =>
    intro T hT p h
    have hr := hL r List.mem_cons_self
    have := ih (fun q hq => hL q (List.mem_cons_of_mem _ hq)) (T := fun q => q = r ∨ T q)
      (fun q hq => hq.elim (fun e => e ▸ hr.1) (hT q)) (h.step hT hr.1 hr.2)
    have e : (fun q => q ∈ r :: L ∨ T q) = fun q => q ∈ L ∨ q = r ∨ T q := funext fun q => by
      rw [List.mem_cons]; exact propext ⟨by tauto, by tauto⟩
    rw [e]; exact this

theorem drop_row (i : S128x100000.Idx) (l : Fin 128) : reducesTo_S128x100000_S128_d1.drop i = ix1 l ↔ i 0 = l := by
  rw [Shape.ReducesTo.drop_eq_drop _ reduces_rows]
  have h : reduces_rows.drop i = ix1 (i 0) := by
    funext a
    match a with
    | 0 => rfl
  rw [h]
  exact ⟨fun e => congrFun e 0, fun e => congrArg ix1 e⟩

theorem mdR_apply (x : Vec Ideal S128x100000 .f32) (l : Fin 128) (hN : ∀ r < 100000, lowest ≤ xl x l r) (hbot : lowest ≠ ⊥) {p : ℕ}
    (hp : First (xl x l) p) : mdR x (ix2 l 0) = BitVec.ofNat 32 p := by
  unfold mdR
  rw [over_one, Ideal.argReduce_eq_reduce2, Host.reduce2_eq_foldl_fiber]
  have hf : Host.argReduceFiber x (iotaInDim S128x100000 32 1) reducesTo_S128x100000_S128_d1 (ix1 l)
      = (((List.finRange S128x100000.numel).filter fun n => reducesTo_S128x100000_S128_d1.drop (S128x100000.rowMajor.symm n) = ix1 l).map
          fun n => (S128x100000.rowMajor.symm n 1).val).map fun r => (xl x l r, BitVec.ofNat 32 r) := by
    unfold Host.argReduceFiber
    rw [List.map_map]
    refine List.map_congr_left fun n hn => ?_
    have hd := (drop_row _ l).1 (of_decide_eq_true (List.mem_filter.1 hn).2)
    refine Prod.ext ?_ rfl
    show x (S128x100000.rowMajor.symm n) = xl x l _
    rw [← xl_fin x l (S128x100000.rowMajor.symm n 1)]
    refine congrArg x (funext fun a => ?_)
    match a with
    | 0 => exact hd
    | 1 => rfl
  rw [hf, List.foldl_map]
  generalize hl : (((List.finRange S128x100000.numel).filter fun n => reducesTo_S128x100000_S128_d1.drop (S128x100000.rowMajor.symm n) = ix1 l).map
    fun n => (S128x100000.rowMajor.symm n 1).val) = L
  have hmem : ∀ r, r ∈ L ↔ r < 100000 := by
    intro r
    rw [← hl, List.mem_map]
    constructor
    · rintro ⟨n, _, rfl⟩
      exact (S128x100000.rowMajor.symm n 1).isLt
    · intro hr
      refine ⟨S128x100000.rowMajor (ix2 l ⟨r, hr⟩), List.mem_filter.2 ⟨List.mem_finRange _, decide_eq_true ?_⟩, ?_⟩
      · rw [Equiv.symm_apply_apply]; exact (drop_row _ l).2 rfl
      · rw [Equiv.symm_apply_apply]; rfl
  have hs := Sel.foldl (x := xl x l) L (fun r hr => ⟨(hmem r).1 hr, (bot_lt_iff_ne_bot.2 hbot).trans_le (hN r ((hmem r).1 hr))⟩)
    (T := fun _ => False) (fun _ h => h.elim) (p := (⊥, 0#32)) (.inl ⟨rfl, fun _ h => h⟩)
  have h0 : ((constant (F := Ideal) S_ .f32 0xFF800000#32 (Shape.Idx.first h_S_), constantI S_ 32 0#32 (Shape.Idx.first h_S_)) : EReal × BitVec 32) = (⊥, 0#32) :=
    Prod.ext bot_eq rfl
  refine (congrArg (fun z : EReal × BitVec 32 => (L.foldl (fun p r => reducer_argmax_f32_i32 (F := Ideal) p (xl x l r, BitVec.ofNat 32 r)) z).2) h0).trans ?_
  rcases hs with ⟨_, h⟩ | ⟨r, hr, he, h⟩
  · exact absurd (.inl ((hmem p).2 hp.1)) (h p)
  · rw [he]
    have hr' : r < 100000 := hr.elim (hmem r).1 False.elim
    have : First (xl x l) r := ⟨hr', fun q hq => (h q (.inl ((hmem q).2 hq))).elim le_of_lt fun e => e.1.le,
      fun q hq => (h q (.inl ((hmem q).2 (hq.trans hr')))).elim id fun e => absurd e.2 (not_le.2 hq)⟩
    rw [this.unique hp]

end Cert.Proof.Ref

end
-- ==== Proof.Values.lean ====
/-
  Both results agree over the extended reals where the selected rows are rows and no logit is below the least finite one.
-/
module

public import proofs.«01_k».proof.Defs
public import proofs.«01_k».proof.Proof.Launch
public import proofs.«01_k».proof.Proof.FinishVal
public import proofs.«01_k».proof.Proof.RefVal
public import proofs.«01_k».proof.Proof.Frames
public import Idealize.ShloMosaic.Lib.TotalOrder

@[expose] public section

noncomputable section

namespace Cert.Proof

open Cert.KernelIdeal Cert.KernelIdeal.Gen
open Idealize.ShloMosaic Idealize.SL.Sem
open Cert.Proof.Rows
open Cert.Proof.Tile (lowest xr toInt_small poOf finLp finMd finLp_apply finMd_apply ofBool_one)
open Cert.Proof.Ref (xl xl_fin InRows lpR mdR lpR_apply mdR_apply)

/-- The shapes the precondition's operations take. -/
theorem preFacts : Cert.Pre_in_range.Facts where
  bcast_S_S128x1 := by decide
  reducesTo_S128x1_S_d0_1 := by decide
  h_S_ := by decide
  bcast_S_S128x100000 := by decide
  reducesTo_S128x100000_S_d0_1 := by decide

theorem lowest_ne_bot : lowest ≠ ⊥ := by
  have h : Ideal.ofBits .f32 0xFF800000#32 < Ideal.ofBits .f32 0xFF7FFFFF#32 := (TotalOrder.f32_lt_iff (by decide) (by decide) (by decide)).mp (by decide)
  exact (bot_le.trans_lt h).ne'

/-- What the precondition says. -/
theorem of_pre {x : Vec Ideal S128x100000 .f32} {a : Vec Ideal S128x1 .i32}
    (h : @Cert.Pre_in_range.fn preFacts Ideal _ x a = fun _ => 1#1) :
    InRows a ∧ ∀ l, ∀ r, r < 100000 → lowest ≤ xl x l r := by
  have h0 := congrFun h ix0
  dsimp only [Cert.Pre_in_range.fn] at h0
  obtain ⟨h1, h2⟩ := IntOp.andi_eq_one.1 h0
  haveI : Subsingleton Cert.Pre_in_range.S_.Idx := ⟨fun i j => funext fun b => b.elim0⟩
  refine ⟨fun i => ?_, fun l r hr => ?_⟩
  · obtain ⟨h3, h4⟩ := IntOp.andi_eq_one.1 (Host.reduce_andi_all _ _ _ _ _ h1 i)
    exact ⟨IntOp.cmpi_sge.1 h3, IntOp.cmpi_slt.1 h4⟩
  · have h3 := Host.reduce_andi_all _ _ _ _ _ h2 (ix2 l ⟨r % 100000, Nat.mod_lt _ (by decide)⟩)
    exact of_decide_eq_true ((ofBool_one _).1 h3)

section

variable (x : Vec Ideal S128x100000 .f32) (a : Vec Ideal S128x1 .i32)

/-- The kernel's copies of its arguments, -/
abbrev xT : Vec Ideal S100000x128 .f32 := transpose S100000x128 [1, 0] x transposes_S128x100000_S100000x128_1_0
abbrev aT : Vec Ideal S128 .i32 := shapeCast S128 a shapeCasts_S128x1_S128

/-- lane by lane. -/
theorem xT_row (l : Fin 128) : xr (xT x) l = xl x l :=
  funext fun r => ValueIdx.transpose_ix2_apply x transposes_S128x100000_S100000x128_1_0 _ l

theorem aT_apply (l : Fin 128) : aT a (ix1 l) = a (ix2 l 0) := by
  refine shapeCast_apply a _ _ _ ?_
  rw [Shape.rowMajor_val_two, Shape.rowMajor_val_one]
  show l.val * 1 + 0 = l.val
  omega

theorem col_apply {α : Type} (v : S1x128.Idx → α) (l : Fin 128) (k : Fin 1) :
    shapeCast S128x1 v shapeCasts_S1x128_S128x1 (ix2 l k) = v (ix2 0 l) := by
  refine shapeCast_apply v _ _ _ ?_
  rw [Shape.rowMajor_val_two, Shape.rowMajor_val_two]
  show 0 * 128 + l.val = l.val * 1 + k.val
  omega

variable {x a} (ha : InRows a) (hN : ∀ l, ∀ r, r < 100000 → lowest ≤ xl x l r)

include ha hN

theorem aT_row (l : Fin 128) : ∃ n, n < 100000 ∧ aT a (ix1 l) = BitVec.ofNat 32 n ∧ (a (ix2 l 0) : BitVec 32).toInt = n := by
  obtain ⟨h0, h1⟩ := ha (ix2 l 0)
  refine ⟨(a (ix2 l 0) : BitVec 32).toInt.toNat, by omega, ?_, by omega⟩
  rw [aT_apply]
  apply BitVec.eq_of_toInt_eq
  rw [toInt_small (by omega)]
  omega

theorem lp_same : shapeCast S128x1 (finLp (poOf (aT a) (xT x))) shapeCasts_S1x128_S128x1 = lpR x a := by
  funext j
  obtain ⟨l, k, rfl⟩ : ∃ l k, j = ix2 l k := ⟨j 0, j 1, ValueIdx.eq_ix2 j⟩
  obtain rfl : k = 0 := Subsingleton.elim _ _
  obtain ⟨n, hn, h1, h2⟩ := aT_row ha hN l
  rw [col_apply, finLp_apply hn h1, xT_row]
  exact (lpR_apply x ha l (hN l) lowest_ne_bot h2).symm

theorem md_same : shapeCast S128x1 (finMd (poOf (aT a) (xT x))) shapeCasts_S1x128_S128x1 = mdR x := by
  funext j
  obtain ⟨l, k, rfl⟩ : ∃ l k, j = ix2 l k := ⟨j 0, j 1, ValueIdx.eq_ix2 j⟩
  obtain rfl : k = 0 := Subsingleton.elim _ _
  obtain ⟨n, hn, h1, h2⟩ := aT_row ha hN l
  obtain ⟨p, hp⟩ := exists_first (xl x l)
  rw [col_apply, finMd_apply hn h1 (by rw [xT_row]; exact hN l) (r := p) (by rw [xT_row]; exact hp)]
  exact (mdR_apply x l (hN l) lowest_ne_bot hp).symm

end

/-- The frames, which hold under the precondition because they hold without it. -/
theorem frame_ideal_pre : Cert.quiescent_KernelIdeal_pre_in_range (hKernelIdeal := Cert.KernelIdeal.Gen.facts) (hPre_in_range := preFacts) :=
  fun m ρ _ => frame_any (F := Ideal) m ρ

theorem frame_ref_pre : Cert.quiescent_ReferenceIdeal_pre_in_range (hReferenceIdeal := Cert.ReferenceIdeal.Gen.facts)
    (hPre_in_range := preFacts) :=
  fun m ρ _ => (θ_run (Cert.ReferenceIdeal.defs (F := Ideal)) _ _).mono (fun _ h => ⟨fun c => (h.1 c).2.2, h.2⟩)
    (Ref.run_main (F := Ideal) m ρ)

/-- Both programs leave the same two results. -/
theorem algebraic : Cert.algebraic_KernelIdeal_ReferenceIdeal_pre_in_range (hKernelIdeal := Cert.KernelIdeal.Gen.facts)
    (hReferenceIdeal := Cert.ReferenceIdeal.Gen.facts) (hPre_in_range := preFacts) := by
  intro m ρ m' ρ' hpre hargs
  refine ⟨fun d => Tile.res0 m d, fun d => Tile.res1 m d, ?_, ?_⟩
  · exact (θ_run (Cert.KernelIdeal.defs (F := Ideal)) _ _).mono (fun _ h d => by
      obtain ⟨h0, h1, h4, h5⟩ := h.1 d
      exact ⟨h4, h5, h0, h1⟩) (Tile.run_main (F := Ideal) m ρ)
  · refine (θ_run (Cert.ReferenceIdeal.defs (F := Ideal)) _ _).mono (fun r h d => ?_) (Ref.run_main (F := Ideal) m' ρ')
    obtain ⟨h3, h5, h0, h1⟩ := h.1 d
    obtain ⟨ha, hN⟩ := of_pre (hpre d)
    refine ⟨h3.trans ?_, h5.trans ?_, h0, h1⟩
    · rw [(hargs d).1, (hargs d).2]
      exact (lp_same ha hN).symm
    · rw [(hargs d).1]
      exact (md_same ha hN).symm

end Cert.Proof

end
-- ==== Proof.lean ====
/- The certificate: the frames of the kernel, its idealization and the reference, and the equality of the two results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Frames
public import proofs.«01_k».proof.Proof.Values
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  preFacts, frame_kernel, frame_ideal, frame_ideal_pre, frame_ref, frame_ref_pre, trivial, algebraic⟩

end Cert.Proof

end
